-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_staged_targets [hPre_staged_targets : Cert.Pre_staged_targets.Facts] (m : (ℓ : Loc Cert.KernelIdeal.nD Cert.KernelIdeal.τ Cert.KernelIdeal.sig) → Buf (Elt Ideal) ℓ) : Prop :=
  ∀ c : Dev Cert.KernelIdeal.nD,
    (Cert.Pre_staged_targets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_staged_targets [hPre_staged_targets : Cert.Pre_staged_targets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_staged_targets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_staged_targets [hKernelIdeal : Cert.KernelIdeal.Facts] [hPre_staged_targets : Cert.Pre_staged_targets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_staged_targets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_staged_targets [hReferenceIdeal : Cert.ReferenceIdeal.Facts] [hPre_staged_targets : Cert.Pre_staged_targets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_staged_targets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_staged_targets [hKernelIdeal : Cert.KernelIdeal.Facts] [hReferenceIdeal : Cert.ReferenceIdeal.Facts] [hPre_staged_targets : Cert.Pre_staged_targets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_staged_targets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_staged_targets : Cert.Pre_staged_targets.Facts),
    quiescent_Kernel (hKernel := hKernel)
    ∧ quiescent_KernelIdeal (hKernelIdeal := hKernelIdeal)
    ∧ quiescent_KernelIdeal_pre_staged_targets (hKernelIdeal := hKernelIdeal) (hPre_staged_targets := hPre_staged_targets)
    ∧ quiescent_ReferenceIdeal (hReferenceIdeal := hReferenceIdeal)
    ∧ quiescent_ReferenceIdeal_pre_staged_targets (hReferenceIdeal := hReferenceIdeal) (hPre_staged_targets := hPre_staged_targets)
    ∧ preserves_Kernel_KernelIdeal
    ∧ algebraic_KernelIdeal_ReferenceIdeal_pre_staged_targets (hKernelIdeal := hKernelIdeal) (hReferenceIdeal := hReferenceIdeal) (hPre_staged_targets := hPre_staged_targets)
-- ==== Pre_staged_targets.lean ====
abbrev S4x2x200x200 : Shape := ⟨4, ![4, 2, 200, 200]⟩
abbrev S4x18x200x200 : Shape := ⟨4, ![4, 18, 200, 200]⟩
abbrev S4x200x200x2 : Shape := ⟨4, ![4, 200, 200, 2]⟩
abbrev S4x80000x9 : Shape := ⟨3, ![4, 80000, 9]⟩
abbrev S4x80000x1 : Shape := ⟨3, ![4, 80000, 1]⟩
abbrev S4x80000 : Shape := ⟨2, ![4, 80000]⟩
abbrev S_ : Shape := ⟨0, ![]⟩

class Facts : Prop where
  slices_S4x80000x9_S4x80000x1_0_0_8 : S4x80000x9.Slices ![0, 0, 8] S4x80000x1
  shapeCasts_S4x80000x1_S4x80000 : S4x80000x1.ShapeCasts S4x80000
  bcast_S_S4x200x200x2 : S_.BroadcastsInDim S4x200x200x2 (![] : Fin 0 → Fin S4x200x200x2.rank)
  reducesTo_S4x200x200x2_S_d0_1_2_3 : S4x200x200x2.ReducesTo [0, 1, 2, 3] S_
  h_S_ : 0 < S_.numel
  bcast_S_S4x80000x9 : S_.BroadcastsInDim S4x80000x9 (![] : Fin 0 → Fin S4x80000x9.rank)
  reducesTo_S4x80000x9_S_d0_1_2 : S4x80000x9.ReducesTo [0, 1, 2] S_
  bcast_S_S4x80000 : S_.BroadcastsInDim S4x80000 (![] : Fin 0 → Fin S4x80000.rank)
  reducesTo_S4x80000_S_d0_1 : S4x80000.ReducesTo [0, 1] S_
  slices_S4x18x200x200_S4x2x200x200_0_7_0_0 : S4x18x200x200.Slices ![0, 7, 0, 0] S4x2x200x200
  bcast_S_S4x2x200x200 : S_.BroadcastsInDim S4x2x200x200 (![] : Fin 0 → Fin S4x2x200x200.rank)
  reducesTo_S4x2x200x200_S_d0_1_2_3 : S4x2x200x200.ReducesTo [0, 1, 2, 3] S_
  slices_S4x18x200x200_S4x2x200x200_0_16_0_0 : S4x18x200x200.Slices ![0, 16, 0, 0] S4x2x200x200

variable [Facts]

def fn_part2 {F : FTy → Type} [FloatOps F] (main_v20 : IVec S_ 1) (main_v26 : IVec S_ 1) (main_v31 : IVec S_ 1) (main_v35 : IVec S4x2x200x200 1) : IVec S_ 1 :=
  let main_c_10 : IVec S_ 1 := constantI S_ 1 1#1
  let main_v36 : IVec S_ 1 := (fun x v => Host.reduce IntOp.andi x v reducesTo_S4x2x200x200_S_d0_1_2_3 h_S_) main_v35 main_c_10
  let main_v37 : IVec S_ 1 := andi main_v31 main_v36
  let main_v38 : IVec S_ 1 := andi main_v20 main_v26
  let main_v39 : IVec S_ 1 := andi main_v38 main_v37
  main_v39

def fn_part1 {F : FTy → Type} [FloatOps F] (main_arg1 : FVec F S4x18x200x200 .f32) (main_v1 : FVec F S4x80000 .f32) (main_v10 : IVec S_ 1) (main_v18 : IVec S4x80000x9 1) : IVec S_ 1 :=
  let main_c_3 : IVec S_ 1 := constantI S_ 1 1#1
  let main_v19 : IVec S_ 1 := (fun x v => Host.reduce IntOp.andi x v reducesTo_S4x80000x9_S_d0_1_2 h_S_) main_v18 main_c_3
  let main_v20 : IVec S_ 1 := andi main_v10 main_v19
  let main_cst_4 : FVec F S_ .f32 := constant S_ .f32 0x00000000#32
  let main_v21 : FVec F S4x80000 .f32 := broadcastInDim S4x80000 ![] bcast_S_S4x80000 main_cst_4
  let main_v22 : IVec S4x80000 1 := cmpf .oeq main_v1 main_v21
  let main_cst_5 : FVec F S_ .f32 := constant S_ .f32 0x3F800000#32
  let main_v23 : FVec F S4x80000 .f32 := broadcastInDim S4x80000 ![] bcast_S_S4x80000 main_cst_5
  let main_v24 : IVec S4x80000 1 := cmpf .oeq main_v1 main_v23
  let main_v25 : IVec S4x80000 1 := ori main_v22 main_v24
  let main_c_6 : IVec S_ 1 := constantI S_ 1 1#1
  let main_v26 : IVec S_ 1 := (fun x v => Host.reduce IntOp.andi x v reducesTo_S4x80000_S_d0_1 h_S_) main_v25 main_c_6
  let main_v27 : FVec F S4x2x200x200 .f32 := (extractStridedSlice S4x2x200x200 ![0, 7, 0, 0] · slices_S4x18x200x200_S4x2x200x200_0_7_0_0) main_arg1
  let main_v28 : FVec F S4x2x200x200 .f32 := Host.absf main_v27
  let main_cst_7 : FVec F S_ .f32 := constant S_ .f32 0x7F800000#32
  let main_v29 : FVec F S4x2x200x200 .f32 := broadcastInDim S4x2x200x200 ![] bcast_S_S4x2x200x200 main_cst_7
  let main_v30 : IVec S4x2x200x200 1 := cmpf .olt main_v28 main_v29
  let main_c_8 : IVec S_ 1 := constantI S_ 1 1#1
  let main_v31 : IVec S_ 1 := (fun x v => Host.reduce IntOp.andi x v reducesTo_S4x2x200x200_S_d0_1_2_3 h_S_) main_v30 main_c_8
  let main_v32 : FVec F S4x2x200x200 .f32 := (extractStridedSlice S4x2x200x200 ![0, 16, 0, 0] · slices_S4x18x200x200_S4x2x200x200_0_16_0_0) main_arg1
  let main_v33 : FVec F S4x2x200x200 .f32 := Host.absf main_v32
  let main_cst_9 : FVec F S_ .f32 := constant S_ .f32 0x7F800000#32
  let main_v34 : FVec F S4x2x200x200 .f32 := broadcastInDim S4x2x200x200 ![] bcast_S_S4x2x200x200 main_cst_9
  let main_v35 : IVec S4x2x200x200 1 := cmpf .olt main_v33 main_v34
  fn_part2 (F := F) main_v20 main_v26 main_v31 main_v35

def fn {F : FTy → Type} [FloatOps F] (main_arg0 : FVec F S4x2x200x200 .f32) (main_arg1 : FVec F S4x18x200x200 .f32) (main_arg2 : FVec F S4x200x200x2 .f32) (main_arg3 : FVec F S4x80000x9 .f32) : IVec S_ 1 :=
  let main_v0 : FVec F S4x80000x1 .f32 := (extractStridedSlice S4x80000x1 ![0, 0, 8] · slices_S4x80000x9_S4x80000x1_0_0_8) main_arg3
  let main_v1 : FVec F S4x80000 .f32 := shapeCast S4x80000 main_v0 shapeCasts_S4x80000x1_S4x80000
  let main_v2 : FVec F S4x200x200x2 .f32 := Host.floor main_arg2
  let main_v3 : IVec S4x200x200x2 1 := cmpf .oeq main_arg2 main_v2
  let main_cst : FVec F S_ .f32 := constant S_ .f32 0xC3000000#32
  let main_v4 : FVec F S4x200x200x2 .f32 := broadcastInDim S4x200x200x2 ![] bcast_S_S4x200x200x2 main_cst
  let main_v5 : IVec S4x200x200x2 1 := cmpf .oge main_arg2 main_v4
  let main_v6 : IVec S4x200x200x2 1 := andi main_v3 main_v5
  let main_cst_0 : FVec F S_ .f32 := constant S_ .f32 0x42FE0000#32
  let main_v7 : FVec F S4x200x200x2 .f32 := broadcastInDim S4x200x200x2 ![] bcast_S_S4x200x200x2 main_cst_0
  let main_v8 : IVec S4x200x200x2 1 := cmpf .ole main_arg2 main_v7
  let main_v9 : IVec S4x200x200x2 1 := andi main_v6 main_v8
  let main_c : IVec S_ 1 := constantI S_ 1 1#1
  let main_v10 : IVec S_ 1 := (fun x v => Host.reduce IntOp.andi x v reducesTo_S4x200x200x2_S_d0_1_2_3 h_S_) main_v9 main_c
  let main_v11 : FVec F S4x80000x9 .f32 := Host.floor main_arg3
  let main_v12 : IVec S4x80000x9 1 := cmpf .oeq main_arg3 main_v11
  let main_cst_1 : FVec F S_ .f32 := constant S_ .f32 0xC3000000#32
  let main_v13 : FVec F S4x80000x9 .f32 := broadcastInDim S4x80000x9 ![] bcast_S_S4x80000x9 main_cst_1
  let main_v14 : IVec S4x80000x9 1 := cmpf .oge main_arg3 main_v13
  let main_v15 : IVec S4x80000x9 1 := andi main_v12 main_v14
  let main_cst_2 : FVec F S_ .f32 := constant S_ .f32 0x42FE0000#32
  let main_v16 : FVec F S4x80000x9 .f32 := broadcastInDim S4x80000x9 ![] bcast_S_S4x80000x9 main_cst_2
  let main_v17 : IVec S4x80000x9 1 := cmpf .ole main_arg3 main_v16
  let main_v18 : IVec S4x80000x9 1 := andi main_v15 main_v17
  fn_part1 (F := F) main_arg1 main_v1 main_v10 main_v18
-- ==== Kernel.lean ====
abbrev S4x2x200x200 : Shape := ⟨4, ![4, 2, 200, 200]⟩
abbrev S4x18x200x200 : Shape := ⟨4, ![4, 18, 200, 200]⟩
abbrev S4x200x200x2 : Shape := ⟨4, ![4, 200, 200, 2]⟩
abbrev S4x80000x9 : Shape := ⟨3, ![4, 80000, 9]⟩
abbrev S4x2x32x1250 : Shape := ⟨4, ![4, 2, 32, 1250]⟩
abbrev S4x18x32x1250 : Shape := ⟨4, ![4, 18, 32, 1250]⟩
abbrev S4x40000x2x9 : Shape := ⟨4, ![4, 40000, 2, 9]⟩
abbrev S4x2x9x40000 : Shape := ⟨4, ![4, 2, 9, 40000]⟩
abbrev S1x1 : Shape := ⟨2, ![1, 1]⟩
abbrev S1x2x32x1250 : Shape := ⟨4, ![1, 2, 32, 1250]⟩
abbrev S1x18x32x1250 : Shape := ⟨4, ![1, 18, 32, 1250]⟩
abbrev S4 : Shape := ⟨1, ![4]⟩
abbrev S1 : Shape := ⟨1, ![1]⟩
abbrev S2x32x1250 : Shape := ⟨3, ![2, 32, 1250]⟩
abbrev S1x1x1x1 : Shape := ⟨4, ![1, 1, 1, 1]⟩
abbrev S7x32x1250 : Shape := ⟨3, ![7, 32, 1250]⟩
abbrev S1x1x32x1250 : Shape := ⟨4, ![1, 1, 32, 1250]⟩
abbrev S32x1250 : Shape := ⟨2, ![32, 1250]⟩
abbrev S1x32x1250 : Shape := ⟨3, ![1, 32, 1250]⟩
abbrev S1x1x1 : Shape := ⟨3, ![1, 1, 1]⟩
abbrev S1x7x32x1250 : Shape := ⟨4, ![1, 7, 32, 1250]⟩
abbrev S_ : Shape := ⟨0, ![]⟩

abbrev nBuf : Space → Nat
  | .hbm => 17
  | .vmem => 9
  | .smem => 1
  | _ => 0

abbrev bufTy : (tb : Table) → Fin (tcTables nBuf tb) → BufTy
  | .hbm, ⟨0, _⟩ => ⟨S4x2x200x200, .f32⟩
  | .hbm, ⟨1, _⟩ => ⟨S4x18x200x200, .f32⟩
  | .hbm, ⟨2, _⟩ => ⟨S4x200x200x2, .f32⟩
  | .hbm, ⟨3, _⟩ => ⟨S4x80000x9, .f32⟩
  | .hbm, ⟨4, _⟩ => ⟨S4x2x32x1250, .f32⟩
  | .hbm, ⟨5, _⟩ => ⟨S4x200x200x2, .i32⟩
  | .hbm, ⟨6, _⟩ => ⟨S4x200x200x2, .i8⟩
  | .hbm, ⟨7, _⟩ => ⟨S4x2x200x200, .i8⟩
  | .hbm, ⟨8, _⟩ => ⟨S4x2x32x1250, .i8⟩
  | .hbm, ⟨9, _⟩ => ⟨S4x18x32x1250, .f32⟩
  | .hbm, ⟨10, _⟩ => ⟨S4x80000x9, .i32⟩
  | .hbm, ⟨11, _⟩ => ⟨S4x80000x9, .i8⟩
  | .hbm, ⟨12, _⟩ => ⟨S4x40000x2x9, .i8⟩
  | .hbm, ⟨13, _⟩ => ⟨S4x2x9x40000, .i8⟩
  | .hbm, ⟨14, _⟩ => ⟨S4x18x32x1250, .i8⟩
  | .hbm, ⟨15, _⟩ => ⟨S1x1, .f32⟩
  | .hbm, ⟨16, _⟩ => ⟨S_, .f32⟩
  | .local _ .vmem, ⟨0, _⟩ => ⟨S1x2x32x1250, .f32⟩
  | .local _ .vmem, ⟨1, _⟩ => ⟨S1x2x32x1250, .f32⟩
  | .local _ .vmem, ⟨2, _⟩ => ⟨S1x2x32x1250, .i8⟩
  | .local _ .vmem, ⟨3, _⟩ => ⟨S1x2x32x1250, .i8⟩
  | .local _ .vmem, ⟨4, _⟩ => ⟨S1x18x32x1250, .f32⟩
  | .local _ .vmem, ⟨5, _⟩ => ⟨S1x18x32x1250, .f32⟩
  | .local _ .vmem, ⟨6, _⟩ => ⟨S1x18x32x1250, .i8⟩
  | .local _ .vmem, ⟨7, _⟩ => ⟨S1x18x32x1250, .i8⟩
  | .local _ .vmem, ⟨8, _⟩ => ⟨S1x1, .f32⟩
  | .local _ .smem, ⟨0, _⟩ => ⟨S4, .f32⟩
  | _, _ => ⟨S4x2x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v173 : BitVec 1 := Scalar.cmpi .eq arg0 c3_i32
  let v174 : BitVec 32 := Scalar.extui v173
  let c0_i32_85 : BitVec 32 := 0#32
  let v175 : BitVec 1 := Scalar.cmpi .ne v174 c0_i32_85
  v175

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x32x1250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x32x1250 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x18x32x1250 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x18x32x1250 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x2x200x200 : Shape := ⟨4, ![4, 2, 200, 200]⟩
abbrev S4x18x200x200 : Shape := ⟨4, ![4, 18, 200, 200]⟩
abbrev S4x200x200x2 : Shape := ⟨4, ![4, 200, 200, 2]⟩
abbrev S4x80000x9 : Shape := ⟨3, ![4, 80000, 9]⟩
abbrev S4x80000 : Shape := ⟨2, ![4, 80000]⟩
abbrev S_ : Shape := ⟨0, ![]⟩
abbrev S4x200x200x18 : Shape := ⟨4, ![4, 200, 200, 18]⟩
abbrev S4x200x200x1 : Shape := ⟨4, ![4, 200, 200, 1]⟩
abbrev S4x200x200 : Shape := ⟨3, ![4, 200, 200]⟩
abbrev S1 : Shape := ⟨1, ![1]⟩
abbrev S4x80000x1 : Shape := ⟨3, ![4, 80000, 1]⟩
abbrev S4x80000x7 : Shape := ⟨3, ![4, 80000, 7]⟩
abbrev S4x80000x2 : Shape := ⟨3, ![4, 80000, 2]⟩
abbrev S4x80000x1x1 : Shape := ⟨4, ![4, 80000, 1, 1]⟩
abbrev S1x1x1x1 : Shape := ⟨4, ![1, 1, 1, 1]⟩

abbrev nBuf : Space → Nat
  | .hbm => 148
  | .vmem => 0
  | .smem => 0
  | _ => 0

abbrev hbmTy0_0 (i : Nat) : BufTy := match i % 128 with
  | 0 => ⟨S4x2x200x200, .f32⟩
  | 1 => ⟨S4x18x200x200, .f32⟩
  | 2 => ⟨S4x200x200x2, .f32⟩
  | 3 => ⟨S4x80000x9, .f32⟩
  | 4 => ⟨S4x200x200x2, .f32⟩
  | 5 => ⟨S4x80000, .f32⟩
  | 6 => ⟨S4x80000, .f32⟩
  | 7 => ⟨S4x80000, .f32⟩
  | 8 => ⟨S4x80000, .f32⟩
  | 9 => ⟨S_, .f32⟩
  | 10 => ⟨S4x80000, .f32⟩
  | 11 => ⟨S4x80000, .f32⟩
  | 12 => ⟨S_, .f32⟩
  | 13 => ⟨S4x80000, .f32⟩
  | 14 => ⟨S4x80000, .f32⟩
  | 15 => ⟨S_, .f32⟩
  | 16 => ⟨S4x80000, .f32⟩
  | 17 => ⟨S4x80000, .i1⟩
  | 18 => ⟨S_, .f32⟩
  | 19 => ⟨S4x80000, .f32⟩
  | 20 => ⟨S4x80000, .f32⟩
  | 21 => ⟨S4x80000, .f32⟩
  | 22 => ⟨S_, .f32⟩
  | 23 => ⟨S4x80000, .f32⟩
  | 24 => ⟨S4x80000, .i1⟩
  | 25 => ⟨S_, .f32⟩
  | 26 => ⟨S_, .f32⟩
  | 27 => ⟨S4x80000, .f32⟩
  | 28 => ⟨S4x80000, .f32⟩
  | 29 => ⟨S4x80000, .f32⟩
  | 30 => ⟨S_, .f32⟩
  | 31 => ⟨S4x80000, .f32⟩
  | 32 => ⟨S4x80000, .f32⟩
  | 33 => ⟨S_, .f32⟩
  | 34 => ⟨S4x80000, .f32⟩
  | 35 => ⟨S4x80000, .f32⟩
  | 36 => ⟨S4x80000, .f32⟩
  | 37 => ⟨S4x80000, .f32⟩
  | 38 => ⟨S_, .f32⟩
  | 39 => ⟨S4x80000, .f32⟩
  | 40 => ⟨S4x80000, .f32⟩
  | 41 => ⟨S4x80000, .f32⟩
  | 42 => ⟨S4x80000, .f32⟩
  | 43 => ⟨S4x80000, .f32⟩
  | 44 => ⟨S4x80000, .f32⟩
  | 45 => ⟨S4x80000, .f32⟩
  | 46 => ⟨S4x80000, .f32⟩
  | 47 => ⟨S4x80000, .f32⟩
  | 48 => ⟨S4x80000, .f32⟩
  | 49 => ⟨S_, .f32⟩
  | 50 => ⟨S_, .f32⟩
  | 51 => ⟨S_, .f32⟩
  | 52 => ⟨S_, .f32⟩
  | 53 => ⟨S4x200x200x18, .f32⟩
  | 54 => ⟨S4x200x200x1, .f32⟩
  | 55 => ⟨S4x200x200, .f32⟩
  | 56 => ⟨S4x200x200, .f32⟩
  | 57 => ⟨S_, .i32⟩
  | 58 => ⟨S1, .i32⟩
  | 59 => ⟨S4x200x200x18, .f32⟩
  | 60 => ⟨S4x80000x9, .f32⟩
  | 61 => ⟨S4x80000x1, .f32⟩
  | 62 => ⟨S4x80000, .f32⟩
  | 63 => ⟨S_, .f32⟩
  | 64 => ⟨S4x80000, .f32⟩
  | 65 => ⟨S4x80000, .i1⟩
  | 66 => ⟨S4x80000, .f32⟩
  | 67 => ⟨S_, .f32⟩
  | 68 => ⟨S_, .f32⟩
  | 69 => ⟨S4x80000x7, .f32⟩
  | 70 => ⟨S4x80000x7, .f32⟩
  | 71 => ⟨S4x80000x7, .f32⟩
  | 72 => ⟨S4x80000x7, .f32⟩
  | 73 => ⟨S_, .f32⟩
  | 74 => ⟨S4x80000x7, .f32⟩
  | 75 => ⟨S4x80000x7, .i1⟩
  | 76 => ⟨S_, .f32⟩
  | 77 => ⟨S4x80000x7, .f32⟩
  | 78 => ⟨S4x80000x7, .f32⟩
  | 79 => ⟨S4x80000x7, .f32⟩
  | 80 => ⟨S_, .f32⟩
  | 81 => ⟨S4x80000x7, .f32⟩
  | 82 => ⟨S4x80000x7, .f32⟩
  | 83 => ⟨S4x80000x7, .f32⟩
  | 84 => ⟨S4x80000x1, .f32⟩
  | 85 => ⟨S4x80000x7, .f32⟩
  | 86 => ⟨S4x80000x7, .f32⟩
  | 87 => ⟨S_, .f32⟩
  | 88 => ⟨S_, .f32⟩
  | 89 => ⟨S_, .f32⟩
  | 90 => ⟨S_, .f32⟩
  | 91 => ⟨S_, .f32⟩
  | 92 => ⟨S4x80000x2, .f32⟩
  | 93 => ⟨S4x80000x1, .f32⟩
  | 94 => ⟨S4x80000, .f32⟩
  | 95 => ⟨S4x80000, .i32⟩
  | 96 => ⟨S_, .f32⟩
  | 97 => ⟨S4x80000, .f32⟩
  | 98 => ⟨S_, .f32⟩
  | 99 => ⟨S4x80000, .f32⟩
  | 100 => ⟨S4x80000, .f32⟩
  | 101 => ⟨S4x80000x1, .f32⟩
  | 102 => ⟨S4x80000x2, .f32⟩
  | 103 => ⟨S4x80000x2, .f32⟩
  | 104 => ⟨S4x80000x2, .f32⟩
  | 105 => ⟨S_, .f32⟩
  | 106 => ⟨S4x80000, .f32⟩
  | 107 => ⟨S4x80000x1, .f32⟩
  | 108 => ⟨S4x80000x1, .f32⟩
  | 109 => ⟨S4x80000x2, .f32⟩
  | 110 => ⟨S4x80000x2, .f32⟩
  | 111 => ⟨S4x80000x1, .i32⟩
  | 112 => ⟨S_, .i32⟩
  | 113 => ⟨S4x80000x1, .i32⟩
  | 114 => ⟨S4x80000x1, .i1⟩
  | 115 => ⟨S_, .i32⟩
  | 116 => ⟨S4x80000x1, .i32⟩
  | 117 => ⟨S4x80000x1, .i32⟩
  | 118 => ⟨S4x80000x1, .i32⟩
  | 119 => ⟨S4x80000x1x1, .i32⟩
  | 120 => ⟨S1, .i32⟩
  | 121 => ⟨S_, .i32⟩
  | 122 => ⟨S4x80000x1x1, .i32⟩
  | 123 => ⟨S4x80000x1x1, .i1⟩
  | 124 => ⟨S1x1x1x1, .i32⟩
  | 125 => ⟨S4x80000x1x1, .i32⟩
  | 126 => ⟨S4x80000x1x1, .i1⟩
  | 127 => ⟨S4x80000x1x1, .i1⟩
  | _ => ⟨S4x2x200x200, .f32⟩

abbrev hbmTy0_1 (i : Nat) : BufTy := match i % 128 with
  | 0 => ⟨S_, .i1⟩
  | 1 => ⟨S4x80000x1, .i1⟩
  | 2 => ⟨S4x80000x1, .f32⟩
  | 3 => ⟨S_, .f32⟩
  | 4 => ⟨S4x80000x1, .f32⟩
  | 5 => ⟨S4x80000x1, .f32⟩
  | 6 => ⟨S4x80000, .f32⟩
  | 7 => ⟨S4x80000, .f32⟩
  | 8 => ⟨S4x80000, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S4x2x200x200, .f32⟩

abbrev hbmTy (i : Nat) : BufTy := match i / 128 with
  | 0 => hbmTy0_0 i
  | 1 => hbmTy0_1 i
  | _ => ⟨S4x2x200x200, .f32⟩

abbrev bufTy : (tb : Table) → Fin (tcTables nBuf tb) → BufTy
  | .hbm, ⟨i, _⟩ => hbmTy i
  | _, _ => ⟨S4x2x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call3_cst : Ref sig .tc := ⟨.hbm, 96, rfl⟩
abbrev main_call3_v0 : Ref sig .tc := ⟨.hbm, 97, rfl⟩
abbrev main_call3_cst_0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_cst_1 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_v70 : Ref sig .tc := ⟨.hbm, 110, rfl⟩
abbrev main_v71 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_18 : Ref sig .tc := ⟨.hbm, 137, rfl⟩
abbrev main_v76 : Ref sig .tc := ⟨.hbm, 138, rfl⟩
abbrev main_v77 : Ref sig .tc := ⟨.hbm, 139, rfl⟩
abbrev main_cst_19 : Ref sig .tc := ⟨.hbm, 140, rfl⟩
abbrev main_v78 : Ref sig .tc := ⟨.hbm, 141, rfl⟩
abbrev main_cst_20 : Ref sig .tc := ⟨.hbm, 142, rfl⟩
abbrev main_v79 : Ref sig .tc := ⟨.hbm, 143, rfl⟩
abbrev main_v80 : Ref sig .tc := ⟨.hbm, 144, rfl⟩
abbrev main_cst_21 : Ref sig .tc := ⟨.hbm, 145, rfl⟩
abbrev main_v81 : Ref sig .tc := ⟨.hbm, 146, rfl⟩
abbrev main_v82 : Ref sig .tc := ⟨.hbm, 147, rfl⟩

abbrev nD : Nat := 1
abbrev τ : Topo := Topo.v7x

variable {F : FTy → Type} [FloatOps F]
-- ==== Proof.Loss.lean ====
module

public import Idealize.ShloMosaic.Lib.Pointwise

/-!
  # The scalar terms of the detection loss

  One anchor contributes four numbers: a weighted cross-entropy of its class score, a flag saying whether it is
  positive, seven smooth-L1 terms and the cross-entropy of its two orientation scores. The functions here are those
  numbers as functions of extended reals, and the loss as a function of their four totals.
-/

@[expose] public section
noncomputable section
namespace Cert.DetLoss
open Idealize.ShloMosaic

/-- The absolute value of an extended real. -/
def mag (x : EReal) : EReal := max x (-x)

/-- `log (1 + exp (-|x|))`. -/
def tailLog (x : EReal) : EReal := Ideal.log1p (Ideal.exp (-mag x))

/-- The predicted probability of the labelled class. -/
def hitProb (x t : EReal) : EReal := if t = 1 then Ideal.logistic x else 1 - Ideal.logistic x

/-- The class weight: a thousand on a positive label, one otherwise. -/
def classWeight (t : EReal) : EReal := if t = 1 then Ideal.ofBits .f32 0x447A0000#32 else 1

/-- The weighted cross-entropy of one class score `x` with label `t`. -/
def focal (x t : EReal) : EReal :=
  classWeight t * (1 - hitProb x t) * (1 - hitProb x t) * (max x 0 - x * t + tailLog x)

/-- One on a positive anchor, zero on the others. -/
def isPos (t : EReal) : EReal := if t = 1 then 1 else 0

/-- The smooth-L1 penalty of a difference. -/
def huber (d : EReal) : EReal :=
  if mag d < 1 then Ideal.ofBits .f32 0x3F000000#32 * d * d else mag d - Ideal.ofBits .f32 0x3F000000#32

/-- The wrong orientation score minus the right one, for the orientation label `t`. -/
def margin (z₀ z₁ t : EReal) : EReal := if t = 1 then z₀ - z₁ else z₁ - z₀

/-- The cross-entropy of two orientation scores, as the softplus of their margin. -/
def softCe (z₀ z₁ t : EReal) : EReal := max (margin z₀ z₁ t) 0 + tailLog (margin z₀ z₁ t)

/-- The loss as a function of its four totals: class terms, smooth-L1 terms, orientation terms, positive anchors. -/
def combine (cls sl ce np : EReal) : EReal :=
  Ideal.ofBits .f32 0x3F800000#32 * Ideal.div cls (Ideal.ofBits .f32 0x489C4000#32)
      + Ideal.ofBits .f32 0x3E4CCCCD#32 * Ideal.div ce np
    + Ideal.ofBits .f32 0x40000000#32 * Ideal.div sl (np * Ideal.ofBits .f32 0x40E00000#32)

/-- Zero minus a number is its negative. -/
theorem zero_minus (x : EReal) : 0 - x = -x := by rw [sub_eq_add_neg, zero_add]

/-- The number a signed byte holds. -/
def byteVal (w : BitVec 8) : EReal := ((w.toInt : ℝ) : EReal)

/-- The byte a float label is staged in: cut to a 32-bit integer, then to its low eight bits. -/
def stage (t : EReal) : BitVec 8 := BitVec.setWidth 8 (Ideal.fptosi 32 t)

/-- A signed byte holds the number one exactly when it is the byte one. -/
theorem byteVal_eq_one (w : BitVec 8) : byteVal w = 1 ↔ w = 1#8 := by
  have h : byteVal w = 1 ↔ w.toInt = 1 := by
    unfold byteVal
    rw [show (1 : EReal) = ((1 : ℝ) : EReal) from rfl, EReal.coe_eq_coe_iff]
    exact_mod_cast Iff.rfl
  rw [h]
  constructor
  · intro e
    exact BitVec.eq_of_toInt_eq (by rw [e]; decide)
  · rintro rfl; decide

/-- A flag word widened and read as a number is one or zero. -/
theorem flag_word (w : BitVec 8) :
    (FloatOps.sitofp (F := Ideal) .f32 (BitVec.setWidth 32 (IntOp.cmpi .eq w 1#8)) : EReal) = isPos (byteVal w) := by
  have e : (FloatOps.sitofp (F := Ideal) .f32 (BitVec.setWidth 32 (IntOp.cmpi .eq w 1#8)) : EReal)
      = (((BitVec.setWidth 32 (IntOp.cmpi .eq w 1#8)).toInt : ℝ) : EReal) := rfl
  rw [e, isPos]; simp only [byteVal_eq_one]
  unfold IntOp.cmpi
  by_cases h : w = 1#8
  · subst h; simp
  · have hb : (w == 1#8) = false := beq_eq_false_iff_ne.mpr h
    simp [h, hb]

/-- A choice by the comparison of a byte with one is the choice by the number it holds. -/
theorem select_byte {α : Type} (w : BitVec 8) (a b : α) :
    Scalar.select (IntOp.cmpi .eq w 1#8) a b = if byteVal w = 1 then a else b := by
  simp only [byteVal_eq_one]
  unfold IntOp.cmpi Scalar.select
  by_cases h : w = 1#8
  · subst h; simp
  · have hb : (w == 1#8) = false := beq_eq_false_iff_ne.mpr h
    simp [h, hb]

/-- The image row of an anchor position. -/
def row (p : Fin 40000) : Fin 200 := ⟨p.val / 200, by omega⟩

/-- The image column of an anchor position. -/
def col (p : Fin 40000) : Fin 200 := ⟨p.val % 200, by omega⟩

/-- The number of anchor `a` at a position, among all anchors of an image. -/
def anchor (p : Fin 40000) (a : Fin 2) : Fin 80000 := ⟨2 * p.val + a.val, by omega⟩

end Cert.DetLoss
end
-- ==== Proof.Block.lean ====
module

public import proofs.«01_k».proof.Proof.Gen.KernelIdeal.Frame
public import proofs.«01_k».proof.Proof.Loss
public import Idealize.ShloMosaic.Lib.Pipeline.ValueKit
public import Idealize.ShloMosaic.Lib.Pipeline.ReadBack
public import Idealize.ShloMosaic.Lib.Pointwise

/-!
  # What one block of the loss kernel computes

  A grid point reads one image: its class scores and labels in two planes of 32x1250 anchors, its regression outputs and
  labels in eighteen planes. It adds four numbers to the four running totals.
-/

@[expose] public section
set_option maxRecDepth 16384
noncomputable section
namespace Cert.KernelIdeal.Block
open Idealize.ShloMosaic Idealize.ShloMosaic.TcCoe Idealize.SL.Sem
open Cert.KernelIdeal Cert.KernelIdeal.Gen Cert.DetLoss

/-- A comparison of a plane number with the plane six. -/
theorem select_six {α : Type} (k : Fin 7) (a b : α) :
    Scalar.select (IntOp.cmpi .eq (BitVec.ofNat 32 k.val) 6#32) a b = if k = 6 then a else b := by
  revert a b; fin_cases k <;> intro a b <;> rfl

/-- The class terms of a block: over both anchors, all rows and all lanes. -/
def clsSum (x : Vec Ideal S1x2x32x1250 .f32) (t : Vec Ideal S1x2x32x1250 .i8) : EReal :=
  ∑ a : Fin 2, ∑ s : Fin 32, ∑ l : Fin 1250, focal (x (ix4 0 a s l)) (byteVal (t (ix4 0 a s l)))

/-- The positive anchors in one plane of labels. -/
def posSum (t : Fin 32 → Fin 1250 → BitVec 8) : EReal := ∑ s : Fin 32, ∑ l : Fin 1250, isPos (byteVal (t s l))

/-- The smooth-L1 terms of one anchor's seven planes. -/
def slSum (y : Fin 7 → Fin 32 → Fin 1250 → EReal) (t : Fin 7 → Fin 32 → Fin 1250 → BitVec 8)
    (m : Fin 32 → Fin 1250 → BitVec 8) : EReal :=
  ∑ k : Fin 7, ∑ s : Fin 32, ∑ l : Fin 1250, huber (y k s l - byteVal (t k s l)) * isPos (byteVal (m s l))

/-- The orientation terms of one anchor. -/
def ceSum (z₀ z₁ : Fin 32 → Fin 1250 → EReal) (t m : Fin 32 → Fin 1250 → BitVec 8) : EReal :=
  ∑ s : Fin 32, ∑ l : Fin 1250, softCe (z₀ s l) (z₁ s l) (byteVal (t s l)) * isPos (byteVal (m s l))

/-- The class payload is the class terms of the block. -/
theorem pay6 (x : Vec Ideal S1x2x32x1250 .f32) (t : Vec Ideal S1x2x32x1250 .i8) :
    k0_pay6 (F := Ideal) x t = clsSum x t := by
  pointwise [k0_pay6, extractAt]
  rw [Ideal.reduceAdd_total _ (by decide), sum_idx4]
  pointwise
  rw [Fin.sum_univ_one]
  refine Finset.sum_congr rfl fun a _ => Finset.sum_congr rfl fun s _ => Finset.sum_congr rfl fun l _ => ?_
  rw [zero_minus]
  rfl

/-- The first anchor's positive-anchor payload. -/
theorem pay8 (t : Vec Ideal S1x1x32x1250 .i8) :
    k0_pay8 (F := Ideal) t = posSum fun s l => t (ix4 0 0 s l) := by
  pointwise [k0_pay8, k0_pay7, extractAt]
  simp only [flag_word]
  rfl

/-- The second anchor's positive-anchor payload, added to what came before. -/
theorem pay12 (n : EReal) (t : Vec Ideal S1x1x32x1250 .i8) :
    k0_pay12 (F := Ideal) n t = n + posSum fun s l => t (ix4 0 0 s l) := by
  pointwise [k0_pay12, k0_pay11, extractAt]
  simp only [flag_word]
  rfl

/-- The first anchor's smooth-L1 payload; its seventh plane goes through the hyperbolic tangent. -/
theorem pay9 (m : Vec Ideal S1x1x32x1250 .i8) (y : Vec Ideal S1x7x32x1250 .f32) (t : Vec Ideal S1x7x32x1250 .i8) :
    k0_pay9 (F := Ideal) (iota Kind.tc S7x32x1250 32 [0] iota_S7x32x1250_d0_w32) m y t
      = slSum (fun k s l => if k = 6 then Ideal.tanh (y (ix4 0 k s l)) else y (ix4 0 k s l))
          (fun k s l => t (ix4 0 k s l)) fun s l => m (ix4 0 0 s l) := by
  pointwise [k0_pay9, k0_pay7, extractAt]
  rw [Ideal.reduceAdd_total _ (by decide), sum_idx4]
  pointwise
  rw [Fin.sum_univ_one]
  simp only [flag_word, select_six]
  rfl

/-- The second anchor's smooth-L1 payload, added to what came before. -/
theorem pay13 (n : EReal) (m : Vec Ideal S1x1x32x1250 .i8) (y : Vec Ideal S1x7x32x1250 .f32)
    (t : Vec Ideal S1x7x32x1250 .i8) :
    k0_pay13 (F := Ideal) n (k0_pay11 m) y t
      = n + slSum (fun k s l => y (ix4 0 k s l)) (fun k s l => t (ix4 0 k s l)) fun s l => m (ix4 0 0 s l) := by
  pointwise [k0_pay13, k0_pay11, extractAt]
  rw [Ideal.reduceAdd_total _ (by decide), sum_idx4]
  pointwise
  rw [Fin.sum_univ_one]
  simp only [flag_word]
  rfl

/-- The first anchor's orientation payload. -/
theorem pay10 (m : Vec Ideal S1x1x32x1250 .i8) (z₀ z₁ : Vec Ideal S1x1x32x1250 .f32) (t : Vec Ideal S1x1x32x1250 .i8) :
    k0_pay10 (F := Ideal) (k0_pay7 m) z₀ z₁ t
      = ceSum (fun s l => z₀ (ix4 0 0 s l)) (fun s l => z₁ (ix4 0 0 s l)) (fun s l => t (ix4 0 0 s l))
          fun s l => m (ix4 0 0 s l) := by
  pointwise [k0_pay10, k0_pay7, extractAt]
  simp only [flag_word, select_byte, zero_minus]
  rfl

/-- The second anchor's orientation payload, added to the first anchor's and to the running total. -/
theorem pay3 (n r : EReal) (m : Vec Ideal S1x1x32x1250 .i8) (z₀ z₁ : Vec Ideal S1x1x32x1250 .f32)
    (t : Vec Ideal S1x1x32x1250 .i8) :
    k0_pay3 (F := Ideal) n (k0_pay11 m) (k0_pay14 z₀ z₁ t) (k0_pay15 z₀ z₁ t) r
      = r + (n + ceSum (fun s l => z₀ (ix4 0 0 s l)) (fun s l => z₁ (ix4 0 0 s l)) (fun s l => t (ix4 0 0 s l))
          fun s l => m (ix4 0 0 s l)) := by
  pointwise [k0_pay3, k0_pay11, k0_pay14, k0_pay15, extractAt]
  simp only [flag_word, select_byte, zero_minus]
  rfl

/-- The last payload is the loss of the four totals. -/
theorem pay5 (np cls sl ce : EReal) (j : S1x1.Idx) : k0_pay5 (F := Ideal) np cls sl ce j = combine cls sl ce np := rfl

end Cert.KernelIdeal.Block
end
-- ==== Proof.Step.lean ====
module

public import proofs.«01_k».proof.Proof.Block

/-!
  # One grid point: the four running totals before and after

  Each grid point leaves in its four scalar cells what they held, plus the four sums of its block; the first point starts
  from zero, and the last point also writes the loss of the totals it leaves.
-/

@[expose] public section
set_option maxRecDepth 16384
noncomputable section
namespace Cert.KernelIdeal.Step
open Idealize.ShloMosaic Idealize.ShloMosaic.TcCoe Idealize.SL.Sem
open Cert.KernelIdeal Cert.KernelIdeal.Gen Cert.DetLoss Cert.KernelIdeal.Block

/-- Plane `j` of the eighteen of a block. -/
def plane {e : EltTy} (x : Vec Ideal S1x18x32x1250 e) (j : Nat) (h : j < 18 := by decide) :
    Fin 32 → Fin 1250 → Elt Ideal e := fun s l => x (ix4 0 ⟨j, h⟩ s l)

/-- The seven planes of a block from plane `j` on. -/
def planes {e : EltTy} (x : Vec Ideal S1x18x32x1250 e) (j : Nat) (h : j + 7 ≤ 18 := by decide) :
    Fin 7 → Fin 32 → Fin 1250 → Elt Ideal e := fun k s l => x (ix4 0 ⟨j + k.val, by omega⟩ s l)

/-- The seven planes of the first anchor, the last one through the hyperbolic tangent. -/
def bent (x : Vec Ideal S1x18x32x1250 .f32) : Fin 7 → Fin 32 → Fin 1250 → EReal :=
  fun k s l => if k = 6 then Ideal.tanh (planes x 0 (by decide) k s l) else planes x 0 (by decide) k s l

/-- What a block adds to the smooth-L1 total. -/
def slGain (y : Vec Ideal S1x18x32x1250 .f32) (t : Vec Ideal S1x18x32x1250 .i8) : EReal :=
  slSum (bent y) (planes t 1) (plane t 0) + slSum (planes y 9) (planes t 10) (plane t 9)

/-- What a block adds to the orientation total. -/
def ceGain (y : Vec Ideal S1x18x32x1250 .f32) (t : Vec Ideal S1x18x32x1250 .i8) : EReal :=
  ceSum (plane y 7) (plane y 8) (plane t 8) (plane t 0) + ceSum (plane y 16) (plane y 17) (plane t 17) (plane t 9)

/-- What a block adds to the count of positive anchors. -/
def posGain (t : Vec Ideal S1x18x32x1250 .i8) : EReal := posSum (plane t 0) + posSum (plane t 9)

/-- A load of one plane. -/
theorem ld_plane {e : EltTy} (x : Vec Ideal S1x18x32x1250 e) (j : Nat) (h : j < 18)
    (inb : ∀ a : Fin 4, (![0, j, 0, 0] : Fin 4 → Nat) a + (![1, 1, 32, 1250] : Fin 4 → Nat) a ≤ S1x18x32x1250.size a)
    (s : Fin 32) (l : Fin 1250) :
    View.ld x (Rect.unit (s := S1x18x32x1250) ![0, j, 0, 0] ![1, 1, 32, 1250] inb) (ix4 0 0 s l) = plane x j h s l := by
  refine congrArg x (funext fun a => Fin.ext ?_)
  fin_cases a <;> simp [Rect.unit, Rect.emb]

/-- A load of seven planes. -/
theorem ld_planes {e : EltTy} (x : Vec Ideal S1x18x32x1250 e) (j : Nat) (h : j + 7 ≤ 18)
    (inb : ∀ a : Fin 4, (![0, j, 0, 0] : Fin 4 → Nat) a + (![1, 7, 32, 1250] : Fin 4 → Nat) a ≤ S1x18x32x1250.size a)
    (k : Fin 7) (s : Fin 32) (l : Fin 1250) :
    View.ld x (Rect.unit (s := S1x18x32x1250) ![0, j, 0, 0] ![1, 7, 32, 1250] inb) (ix4 0 k s l)
      = planes x j h k s l := by
  refine congrArg x (funext fun a => Fin.ext ?_)
  fin_cases a <;> simp [Rect.unit, Rect.emb]

/-- A load of one of the four cells. -/
theorem ld_cell (A : Vec Ideal S4 .f32) (k : Fin 4)
    (inb : ∀ a : Fin 1, (![k.val] : Fin 1 → Nat) a + (![1] : Fin 1 → Nat) a ≤ S4.size a) (h) :
    View.ld A (Rect.unit (s := S4) ![k.val] ![1] inb) (Shape.Idx.first h) = A (ix1 k) := by
  refine congrArg A (funext fun a => Fin.ext ?_)
  fin_cases a; simp [Rect.unit, Rect.emb, Shape.Idx.first]

/-- The last store to a cell is what the cell holds. -/
theorem cell_hit (k : Fin 4) (inb : ∀ a : Fin 1, (![k.val] : Fin 1 → Nat) a + (![1] : Fin 1 → Nat) a ≤ S4.size a)
    (w : EReal) (L : List (View.Piece (Elt Ideal) S4 .f32)) :
    View.canon (⟨Rect.unit (s := S4) ![k.val] ![1] inb, fun _ => w⟩ :: L) (ix1 k) = w := by
  have e : (Rect.unit (s := S4) ![k.val] ![1] inb).emb (ix1 0) = ix1 k := by
    funext a; apply Fin.ext; fin_cases a; simp [Rect.unit, Rect.emb]
  rw [← e]
  exact View.canon_cons_emb _ _ _ _

/-- A store to another cell leaves a cell alone. -/
theorem cell_miss (k j : Fin 4) (hne : j ≠ k)
    (inb : ∀ a : Fin 1, (![k.val] : Fin 1 → Nat) a + (![1] : Fin 1 → Nat) a ≤ S4.size a)
    (w : (Rect.unit (s := S4) ![k.val] ![1] inb).shape.Idx → Elt Ideal .f32) (L : List (View.Piece (Elt Ideal) S4 .f32)) :
    View.canon (⟨Rect.unit (s := S4) ![k.val] ![1] inb, w⟩ :: L) (ix1 j) = View.canon L (ix1 j) := by
  refine View.canon_cons_of_not_mem _ _ fun hm => hne ?_
  have h0 := (Rect.mem_set_unit (inb := inb).mp hm) 0
  have hk : k.val ≤ j.val ∧ j.val < k.val + 1 := h0
  exact Fin.ext (by omega)

/-- Four stores, one to each cell, leave an array whose cells are the four stored numbers. -/
theorem four_cells (G : Vec Ideal S4 .f32) (w₀ w₁ w₂ w₃ : EReal)
    (i₀ : ∀ a : Fin 1, (![0] : Fin 1 → Nat) a + (![1] : Fin 1 → Nat) a ≤ S4.size a)
    (i₁ : ∀ a : Fin 1, (![1] : Fin 1 → Nat) a + (![1] : Fin 1 → Nat) a ≤ S4.size a)
    (i₂ : ∀ a : Fin 1, (![2] : Fin 1 → Nat) a + (![1] : Fin 1 → Nat) a ≤ S4.size a)
    (i₃ : ∀ a : Fin 1, (![3] : Fin 1 → Nat) a + (![1] : Fin 1 → Nat) a ≤ S4.size a)
    (L : List (View.Piece (Elt Ideal) S4 .f32))
    (h₀ : w₀ = G (ix1 0)) (h₁ : w₁ = G (ix1 1)) (h₂ : w₂ = G (ix1 2)) (h₃ : w₃ = G (ix1 3)) :
    View.canon (⟨Rect.unit (s := S4) ![3] ![1] i₃, fun _ => w₃⟩ :: ⟨Rect.unit (s := S4) ![2] ![1] i₂, fun _ => w₂⟩
      :: ⟨Rect.unit (s := S4) ![1] ![1] i₁, fun _ => w₁⟩ :: ⟨Rect.unit (s := S4) ![0] ![1] i₀, fun _ => w₀⟩ :: L) = G := by
  funext j
  rw [eq_ix1 j]
  have hj : ∀ k : Fin 4, k = 0 ∨ k = 1 ∨ k = 2 ∨ k = 3 := by decide
  rcases hj (j 0) with e | e | e | e <;> rw [e]
  · exact (cell_miss 3 0 (by decide) _ _ _).trans ((cell_miss 2 0 (by decide) _ _ _).trans
      ((cell_miss 1 0 (by decide) _ _ _).trans ((cell_hit 0 _ _ _).trans h₀)))
  · exact (cell_miss 3 1 (by decide) _ _ _).trans ((cell_miss 2 1 (by decide) _ _ _).trans ((cell_hit 1 _ _ _).trans h₁))
  · exact (cell_miss 3 2 (by decide) _ _ _).trans ((cell_hit 2 _ _ _).trans h₂)
  · exact (cell_hit 3 _ _ _).trans h₃

/-- The four cells after a grid point that found `A` in them. -/
def after (A : Vec Ideal S4 .f32) (x : Vec Ideal S1x2x32x1250 .f32) (t : Vec Ideal S1x2x32x1250 .i8)
    (y : Vec Ideal S1x18x32x1250 .f32) (u : Vec Ideal S1x18x32x1250 .i8) : Vec Ideal S4 .f32 := fun j =>
  A j + (![clsSum x t, slGain y u, ceGain y u, posGain u] : Fin 4 → EReal) (j 0)

/-- Equal planes give equal smooth-L1 sums. -/
theorem slSum_congr {y y' : Fin 7 → Fin 32 → Fin 1250 → EReal} {t t' : Fin 7 → Fin 32 → Fin 1250 → BitVec 8}
    {m m' : Fin 32 → Fin 1250 → BitVec 8} (hy : ∀ k s l, y k s l = y' k s l) (ht : ∀ k s l, t k s l = t' k s l)
    (hm : ∀ s l, m s l = m' s l) : slSum y t m = slSum y' t' m' := by
  obtain rfl : y = y' := funext fun k => funext fun s => funext fun l => hy k s l
  obtain rfl : t = t' := funext fun k => funext fun s => funext fun l => ht k s l
  obtain rfl : m = m' := funext fun s => funext fun l => hm s l
  rfl

/-- Equal planes give equal orientation sums. -/
theorem ceSum_congr {z₀ z₀' z₁ z₁' : Fin 32 → Fin 1250 → EReal} {t t' m m' : Fin 32 → Fin 1250 → BitVec 8}
    (h₀ : ∀ s l, z₀ s l = z₀' s l) (h₁ : ∀ s l, z₁ s l = z₁' s l) (ht : ∀ s l, t s l = t' s l)
    (hm : ∀ s l, m s l = m' s l) : ceSum z₀ z₁ t m = ceSum z₀' z₁' t' m' := by
  obtain rfl : z₀ = z₀' := funext fun s => funext fun l => h₀ s l
  obtain rfl : z₁ = z₁' := funext fun s => funext fun l => h₁ s l
  obtain rfl : t = t' := funext fun s => funext fun l => ht s l
  obtain rfl : m = m' := funext fun s => funext fun l => hm s l
  rfl

/-- Equal planes give equal counts. -/
theorem posSum_congr {m m' : Fin 32 → Fin 1250 → BitVec 8} (hm : ∀ s l, m s l = m' s l) : posSum m = posSum m' :=
  congrArg posSum (funext fun s => funext fun l => hm s l)

/-- The class cell's new value. -/
theorem new_cls (x : Vec Ideal S1x2x32x1250 .f32) (t : Vec Ideal S1x2x32x1250 .i8) (r : EReal) :
    k0_pay1 (F := Ideal) (k0_pay6 x t) r = r + clsSum x t := by
  rw [pay6]; rfl

section Loads

variable (y : Vec Ideal S1x18x32x1250 .f32) (u : Vec Ideal S1x18x32x1250 .i8) (r : EReal)

/-- The smooth-L1 cell's new value. -/
theorem new_sl : k0_pay2 (F := Ideal) (k0_pay13
      (k0_pay9 (iota Kind.tc S7x32x1250 32 [0] iota_S7x32x1250_d0_w32)
        (View.ld u (Rect.unit ![0, 0, 0, 0] ![1, 1, 32, 1250] inb_S1x18x32x1250_S1x1x32x1250_0_0_0_0))
        (View.ld y (Rect.unit ![0, 0, 0, 0] ![1, 7, 32, 1250] inb_S1x18x32x1250_S1x7x32x1250_0_0_0_0))
        (View.ld u (Rect.unit ![0, 1, 0, 0] ![1, 7, 32, 1250] inb_S1x18x32x1250_S1x7x32x1250_0_1_0_0)))
      (k0_pay11 (View.ld u (Rect.unit ![0, 9, 0, 0] ![1, 1, 32, 1250] inb_S1x18x32x1250_S1x1x32x1250_0_9_0_0)))
      (View.ld y (Rect.unit ![0, 9, 0, 0] ![1, 7, 32, 1250] inb_S1x18x32x1250_S1x7x32x1250_0_9_0_0))
      (View.ld u (Rect.unit ![0, 10, 0, 0] ![1, 7, 32, 1250] inb_S1x18x32x1250_S1x7x32x1250_0_10_0_0))) r
    = r + slGain y u := by
  rw [pay9, pay13]
  refine congrArg (r + ·) (congrArg₂ (· + ·) (slSum_congr (fun k s l => ?_) ?_ ?_) (slSum_congr ?_ ?_ ?_))
  · rw [ld_planes y 0 (by decide)]; rfl
  · exact ld_planes u 1 (by decide) _
  · exact ld_plane u 0 (by decide) _
  · exact ld_planes y 9 (by decide) _
  · exact ld_planes u 10 (by decide) _
  · exact ld_plane u 9 (by decide) _

/-- The orientation cell's new value. -/
theorem new_ce : k0_pay3 (F := Ideal)
      (k0_pay10 (k0_pay7 (View.ld u (Rect.unit ![0, 0, 0, 0] ![1, 1, 32, 1250] inb_S1x18x32x1250_S1x1x32x1250_0_0_0_0)))
        (View.ld y (Rect.unit ![0, 7, 0, 0] ![1, 1, 32, 1250] inb_S1x18x32x1250_S1x1x32x1250_0_7_0_0))
        (View.ld y (Rect.unit ![0, 8, 0, 0] ![1, 1, 32, 1250] inb_S1x18x32x1250_S1x1x32x1250_0_8_0_0))
        (View.ld u (Rect.unit ![0, 8, 0, 0] ![1, 1, 32, 1250] inb_S1x18x32x1250_S1x1x32x1250_0_8_0_0)))
      (k0_pay11 (View.ld u (Rect.unit ![0, 9, 0, 0] ![1, 1, 32, 1250] inb_S1x18x32x1250_S1x1x32x1250_0_9_0_0)))
      (k0_pay14 (View.ld y (Rect.unit ![0, 16, 0, 0] ![1, 1, 32, 1250] inb_S1x18x32x1250_S1x1x32x1250_0_16_0_0))
        (View.ld y (Rect.unit ![0, 17, 0, 0] ![1, 1, 32, 1250] inb_S1x18x32x1250_S1x1x32x1250_0_17_0_0))
        (View.ld u (Rect.unit ![0, 17, 0, 0] ![1, 1, 32, 1250] inb_S1x18x32x1250_S1x1x32x1250_0_17_0_0)))
      (k0_pay15 (View.ld y (Rect.unit ![0, 16, 0, 0] ![1, 1, 32, 1250] inb_S1x18x32x1250_S1x1x32x1250_0_16_0_0))
        (View.ld y (Rect.unit ![0, 17, 0, 0] ![1, 1, 32, 1250] inb_S1x18x32x1250_S1x1x32x1250_0_17_0_0))
        (View.ld u (Rect.unit ![0, 17, 0, 0] ![1, 1, 32, 1250] inb_S1x18x32x1250_S1x1x32x1250_0_17_0_0))) r
    = r + ceGain y u := by
  rw [pay10, pay3]
  exact congrArg (r + ·) (congrArg₂ (· + ·)
    (ceSum_congr (ld_plane y 7 (by decide) _) (ld_plane y 8 (by decide) _) (ld_plane u 8 (by decide) _)
      (ld_plane u 0 (by decide) _))
    (ceSum_congr (ld_plane y 16 (by decide) _) (ld_plane y 17 (by decide) _) (ld_plane u 17 (by decide) _)
      (ld_plane u 9 (by decide) _)))

/-- The positive-anchor cell's new value. -/
theorem new_pos : k0_pay4 (F := Ideal)
      (k0_pay12 (k0_pay8 (View.ld u (Rect.unit ![0, 0, 0, 0] ![1, 1, 32, 1250] inb_S1x18x32x1250_S1x1x32x1250_0_0_0_0)))
        (View.ld u (Rect.unit ![0, 9, 0, 0] ![1, 1, 32, 1250] inb_S1x18x32x1250_S1x1x32x1250_0_9_0_0))) r
    = r + posGain u := by
  rw [pay8, pay12]
  exact congrArg (r + ·) (congrArg₂ (· + ·) (posSum_congr (ld_plane u 0 (by decide) _))
    (posSum_congr (ld_plane u 9 (by decide) _)))

end Loads

section Points

variable (c : Dev nD) (i : grid0.Coords)
  (arg1 : Memref sig .tc .vmem S1x2x32x1250 .f32) (harg1 : arg1.IsWhole)
  (arg2 : Memref sig .tc .vmem S1x2x32x1250 .i8) (harg2 : arg2.IsWhole)
  (arg3 : Memref sig .tc .vmem S1x18x32x1250 .f32) (harg3 : arg3.IsWhole)
  (arg4 : Memref sig .tc .vmem S1x18x32x1250 .i8) (harg4 : arg4.IsWhole)
  (arg5 : Memref sig .tc .vmem S1x1 .f32) (harg5 : arg5.IsWhole)
  (arg6 : Memref sig .tc .smem S4 .f32) (harg6 : arg6.IsWhole)
  (x0 : Vec Ideal S1x2x32x1250 .f32) (x1 : Vec Ideal S1x2x32x1250 .i8)
  (x2 : Vec Ideal S1x18x32x1250 .f32) (x3 : Vec Ideal S1x18x32x1250 .i8) (xs0 : Vec Ideal S4 .f32)

/-- A middle point adds its block to the cells. -/
theorem cells_B (hc0 : ¬cond0_0 i) (hc1 : ¬cond0_1 i) :
    sout0_B_0 c i arg1 harg1 arg2 harg2 arg3 harg3 arg4 harg4 arg5 harg5 arg6 harg6 hc0 hc1 x0 x1 x2 x3 xs0
      = after xs0 x0 x1 x2 x3 := by
  frame_out
  refine four_cells _ _ _ _ _ _ _ _ _ _ ?_ ?_ ?_ ?_
  · exact (new_cls x0 x1 _).trans (congrArg (· + clsSum x0 x1) (ld_cell xs0 0 _ _))
  · exact (new_sl x2 x3 _).trans (congrArg (· + slGain x2 x3) (ld_cell xs0 1 _ _))
  · exact (new_ce x2 x3 _).trans (congrArg (· + ceGain x2 x3) (ld_cell xs0 2 _ _))
  · exact (new_pos x3 _).trans (congrArg (· + posGain x3) (ld_cell xs0 3 _ _))

/-- The last point adds its block to the cells. -/
theorem cells_C (hc0 : ¬cond0_0 i) (hc1 : cond0_1 i) :
    sout0_C_0 c i arg1 harg1 arg2 harg2 arg3 harg3 arg4 harg4 arg5 harg5 arg6 harg6 hc0 hc1 x0 x1 x2 x3 xs0
      = after xs0 x0 x1 x2 x3 := by
  frame_out
  refine four_cells _ _ _ _ _ _ _ _ _ _ ?_ ?_ ?_ ?_
  · exact (new_cls x0 x1 _).trans (congrArg (· + clsSum x0 x1) (ld_cell xs0 0 _ _))
  · exact (new_sl x2 x3 _).trans (congrArg (· + slGain x2 x3) (ld_cell xs0 1 _ _))
  · exact (new_ce x2 x3 _).trans (congrArg (· + ceGain x2 x3) (ld_cell xs0 2 _ _))
  · exact (new_pos x3 _).trans (congrArg (· + posGain x3) (ld_cell xs0 3 _ _))

/-- The first point starts the cells from zero. -/
theorem cells_A (hc0 : cond0_0 i) (hc1 : ¬cond0_1 i) :
    sout0_A_0 c i arg1 harg1 arg2 harg2 arg3 harg3 arg4 harg4 arg5 harg5 arg6 harg6 hc0 hc1 x0 x1 x2 x3
      = after (fun _ => (0 : EReal)) x0 x1 x2 x3 := by
  have z : (FloatOps.ofBits (F := Ideal) FTy.f32 0#32 : EReal) = 0 := Ideal.ofBits_zero_f32
  frame_out
  refine four_cells _ _ _ _ _ _ _ _ _ _ ?_ ?_ ?_ ?_
  · exact (new_cls x0 x1 _).trans (congrArg (· + clsSum x0 x1) z)
  · exact (new_sl x2 x3 _).trans (congrArg (· + slGain x2 x3) z)
  · exact (new_ce x2 x3 _).trans (congrArg (· + ceGain x2 x3) z)
  · exact (new_pos x3 _).trans (congrArg (· + posGain x3) z)

/-- The last point writes the loss of the cells it leaves. -/
theorem result_C (hc0 : ¬cond0_0 i) (hc1 : cond0_1 i) (j : S1x1.Idx) :
    out0_C_4 c i arg1 harg1 arg2 harg2 arg3 harg3 arg4 harg4 arg5 harg5 arg6 harg6 hc0 hc1 x0 x1 x2 x3 xs0 j
      = combine (after xs0 x0 x1 x2 x3 (ix1 0)) (after xs0 x0 x1 x2 x3 (ix1 1)) (after xs0 x0 x1 x2 x3 (ix1 2))
          (after xs0 x0 x1 x2 x3 (ix1 3)) := by
  frame_out
  rw [pay5]
  congr 1
  · exact (new_cls x0 x1 _).trans (congrArg (· + clsSum x0 x1) (ld_cell xs0 0 _ _))
  · exact (new_sl x2 x3 _).trans (congrArg (· + slGain x2 x3) (ld_cell xs0 1 _ _))
  · exact (new_ce x2 x3 _).trans (congrArg (· + ceGain x2 x3) (ld_cell xs0 2 _ _))
  · exact (new_pos x3 _).trans (congrArg (· + posGain x3) (ld_cell xs0 3 _ _))

end Points

end Cert.KernelIdeal.Step
end
-- ==== Proof.Reads.lean ====
module

public import proofs.«01_k».proof.Proof.Step

/-!
  # The blocks a grid point reads, in terms of the arguments

  Grid point `t` reads image `t`. Anchor position `p = 1250 * s + l` of the image is row `p / 200`, column `p % 200`.
-/

@[expose] public section
set_option maxRecDepth 16384
noncomputable section
namespace Cert.KernelIdeal.Reads
open Idealize.ShloMosaic Idealize.ShloMosaic.TcCoe Idealize.SL.Sem
open Cert.KernelIdeal Cert.KernelIdeal.Gen Cert.DetLoss

variable (m : (ℓ : Loc nD τ sig) → Buf (Elt Ideal) ℓ) (c : Dev nD)

theorem idx0 : ∀ t : Fin cfg0.N, win0_0.index t = ![t.val, 0, 0, 0] := by decide +kernel
theorem idx1 : ∀ t : Fin cfg0.N, win0_1.index t = ![t.val, 0, 0, 0] := by decide +kernel
theorem idx2 : ∀ t : Fin cfg0.N, win0_2.index t = ![t.val, 0, 0, 0] := by decide +kernel
theorem idx3 : ∀ t : Fin cfg0.N, win0_3.index t = ![t.val, 0, 0, 0] := by decide +kernel

theorem entry0 : V m c main_v0
    = shapeCast S4x2x32x1250 (m ((c.tc : Thread nD τ).loc main_arg0)) shapeCasts_S4x2x200x200_S4x2x32x1250 := by
  rfl

theorem entry1 : V m c main_v4
    = shapeCast S4x2x32x1250 (transpose S4x2x200x200 [0, 3, 1, 2]
        (fun i => stage (m ((c.tc : Thread nD τ).loc main_arg2) i) : IVec S4x200x200x2 8)
        transposes_S4x200x200x2_S4x2x200x200_0_3_1_2) shapeCasts_S4x2x200x200_S4x2x32x1250 := by
  rfl

theorem entry2 : V m c main_v5
    = shapeCast S4x18x32x1250 (m ((c.tc : Thread nD τ).loc main_arg1)) shapeCasts_S4x18x200x200_S4x18x32x1250 := by
  rfl

theorem entry3 : V m c main_v10
    = shapeCast S4x18x32x1250 (transpose S4x2x9x40000 [0, 2, 3, 1]
        (shapeCast S4x40000x2x9 (fun i => stage (m ((c.tc : Thread nD τ).loc main_arg3) i) : IVec S4x80000x9 8)
          shapeCasts_S4x80000x9_S4x40000x2x9)
        transposes_S4x40000x2x9_S4x2x9x40000_0_2_3_1) shapeCasts_S4x2x9x40000_S4x18x32x1250 := by
  rfl

/-- Where the elements of a point's block of class scores lie. -/
theorem place0 (t : Fin cfg0.N) (b : Fin 4) (hb : b.val = t.val) (a : Fin 2) (s : Fin 32) (l : Fin 1250) :
    ((cfg0.win 0).blk t).view.emb (ix4 0 a s l) = (ix4 b a s l : S4x2x32x1250.Idx) := by
  blk_ext [idx0 t]

/-- Where the elements of a point's block of class labels lie. -/
theorem place1 (t : Fin cfg0.N) (b : Fin 4) (hb : b.val = t.val) (a : Fin 2) (s : Fin 32) (l : Fin 1250) :
    ((cfg0.win 1).blk t).view.emb (ix4 0 a s l) = (ix4 b a s l : S4x2x32x1250.Idx) := by
  blk_ext [idx1 t]

/-- Where the elements of a point's block of regression outputs lie. -/
theorem place2 (t : Fin cfg0.N) (b : Fin 4) (hb : b.val = t.val) (j : Fin 18) (s : Fin 32) (l : Fin 1250) :
    ((cfg0.win 2).blk t).view.emb (ix4 0 j s l) = (ix4 b j s l : S4x18x32x1250.Idx) := by
  blk_ext [idx2 t]

/-- Where the elements of a point's block of regression labels lie. -/
theorem place3 (t : Fin cfg0.N) (b : Fin 4) (hb : b.val = t.val) (j : Fin 18) (s : Fin 32) (l : Fin 1250) :
    ((cfg0.win 3).blk t).view.emb (ix4 0 j s l) = (ix4 b j s l : S4x18x32x1250.Idx) := by
  blk_ext [idx3 t]

section Layout

variable {α : Type} (b : Fin 4) (a : Fin 2) (j : Fin 18) (s : Fin 32) (l : Fin 1250) (p : Fin 40000)

/-- The two planes of an image, its rows and columns laid out as 32 rows of 1250. -/
theorem lay0 (x : S4x2x200x200.Idx → α) (hp : p.val = 1250 * s.val + l.val) :
    shapeCast S4x2x32x1250 x shapeCasts_S4x2x200x200_S4x2x32x1250 (ix4 b a s l) = x (ix4 b a (row p) (col p)) := by
  pointwise
  refine congrArg x ((ix4_inj ..).mpr ⟨rfl, rfl, Fin.ext ?_, Fin.ext ?_⟩) <;> simp only [row, col] <;> omega

/-- The class labels, their last axis moved to the front of the planes. -/
theorem lay1 (x : S4x200x200x2.Idx → α) (hp : p.val = 1250 * s.val + l.val) :
    shapeCast S4x2x32x1250 (transpose S4x2x200x200 [0, 3, 1, 2] x transposes_S4x200x200x2_S4x2x200x200_0_3_1_2)
      shapeCasts_S4x2x200x200_S4x2x32x1250 (ix4 b a s l) = x (ix4 b (row p) (col p) a) := by
  rw [lay0 b a s l p _ hp]
  pointwise

/-- The eighteen planes of an image. -/
theorem lay2 (x : S4x18x200x200.Idx → α) (hp : p.val = 1250 * s.val + l.val) :
    shapeCast S4x18x32x1250 x shapeCasts_S4x18x200x200_S4x18x32x1250 (ix4 b j s l) = x (ix4 b j (row p) (col p)) := by
  pointwise
  refine congrArg x ((ix4_inj ..).mpr ⟨rfl, rfl, Fin.ext ?_, Fin.ext ?_⟩) <;> simp only [row, col] <;> omega

/-- The regression labels: plane `j` is entry `j % 9` of anchor `j / 9` at each position. -/
theorem lay3 (x : S4x80000x9.Idx → α) (k : Fin 9) (hp : p.val = 1250 * s.val + l.val) (hj : j.val = 9 * a.val + k.val) :
    shapeCast S4x18x32x1250 (transpose S4x2x9x40000 [0, 2, 3, 1]
        (shapeCast S4x40000x2x9 x shapeCasts_S4x80000x9_S4x40000x2x9)
        transposes_S4x40000x2x9_S4x2x9x40000_0_2_3_1) shapeCasts_S4x2x9x40000_S4x18x32x1250 (ix4 b j s l)
      = x (ix3 b (anchor p a) k) := by
  pointwise
  refine congrArg x ((ix3_inj ..).mpr ⟨rfl, Fin.ext ?_, Fin.ext ?_⟩) <;> simp only [anchor] <;> omega

end Layout

section Blocks

variable (t : Fin cfg0.N) (b : Fin 4) (hb : b.val = t.val) (a : Fin 2) (j : Fin 18) (s : Fin 32) (l : Fin 1250)
  (p : Fin 40000) (hp : p.val = 1250 * s.val + l.val)
include hb hp

/-- The class scores of a block. -/
theorem read0 : iblk m c 0 t (ix4 0 a s l) = m ((c.tc : Thread nD τ).loc main_arg0) (ix4 b a (row p) (col p)) := by
  refine (congrArg (V m c main_v0) (place0 t b hb a s l)).trans ?_
  rw [entry0]
  exact lay0 b a s l p _ hp

/-- The class labels of a block, staged as bytes. -/
theorem read1 :
    iblk m c 1 t (ix4 0 a s l) = stage (m ((c.tc : Thread nD τ).loc main_arg2) (ix4 b (row p) (col p) a)) := by
  refine (congrArg (V m c main_v4) (place1 t b hb a s l)).trans ?_
  rw [entry1]
  exact lay1 b a s l p _ hp

/-- The regression outputs of a block. -/
theorem read2 : iblk m c 2 t (ix4 0 j s l) = m ((c.tc : Thread nD τ).loc main_arg1) (ix4 b j (row p) (col p)) := by
  refine (congrArg (V m c main_v5) (place2 t b hb j s l)).trans ?_
  rw [entry2]
  exact lay2 b j s l p _ hp

/-- The regression labels of a block, staged as bytes. -/
theorem read3 (k : Fin 9) (hj : j.val = 9 * a.val + k.val) :
    iblk m c 3 t (ix4 0 j s l) = stage (m ((c.tc : Thread nD τ).loc main_arg3) (ix3 b (anchor p a) k)) := by
  refine (congrArg (V m c main_v10) (place3 t b hb j s l)).trans ?_
  rw [entry3]
  exact lay3 b a j s l p _ k hp hj

end Blocks

end Cert.KernelIdeal.Reads
-- ==== Proof.Totals.lean ====
module

public import proofs.«01_k».proof.Proof.Loss

/-!
  # The four totals of the loss

  An anchor is an image `b`, an anchor number `a` and a position `p`. It has one class score and label, nine regression
  outputs and nine regression labels: the first label says whether the anchor is positive, the next seven are the box,
  the last is the orientation; the first seven outputs are the box, the last two the orientation scores.
-/

@[expose] public section
noncomputable section
namespace Cert.DetLoss
open Idealize.ShloMosaic

/-- One number for every anchor. -/
abbrev PerAnchor := Fin 4 → Fin 2 → Fin 40000 → EReal

/-- Nine numbers for every anchor. -/
abbrev NinePerAnchor := Fin 4 → Fin 2 → Fin 9 → Fin 40000 → EReal

/-- A box output; the last box output of the first anchor goes through the hyperbolic tangent. -/
def box (y : NinePerAnchor) (b : Fin 4) (a : Fin 2) (k : Fin 7) (p : Fin 40000) : EReal :=
  if a = 0 ∧ k = 6 then Ideal.tanh (y b a ⟨k.val, by omega⟩ p) else y b a ⟨k.val, by omega⟩ p

/-- The class terms of all anchors. -/
def clsTotal (x t : PerAnchor) : EReal := ∑ b : Fin 4, ∑ a : Fin 2, ∑ p : Fin 40000, focal (x b a p) (t b a p)

/-- The smooth-L1 terms of all positive anchors. -/
def slTotal (y u : NinePerAnchor) : EReal :=
  ∑ b : Fin 4, ∑ a : Fin 2, ∑ k : Fin 7, ∑ p : Fin 40000,
    huber (box y b a k p - u b a ⟨k.val + 1, by omega⟩ p) * isPos (u b a 0 p)

/-- The orientation terms of all positive anchors. -/
def ceTotal (y u : NinePerAnchor) : EReal :=
  ∑ b : Fin 4, ∑ a : Fin 2, ∑ p : Fin 40000, softCe (y b a 7 p) (y b a 8 p) (u b a 8 p) * isPos (u b a 0 p)

/-- The number of positive anchors. -/
def posTotal (u : NinePerAnchor) : EReal := ∑ b : Fin 4, ∑ a : Fin 2, ∑ p : Fin 40000, isPos (u b a 0 p)

/-- The loss. -/
def loss (x t : PerAnchor) (y u : NinePerAnchor) : EReal :=
  combine (clsTotal x t) (slTotal y u) (ceTotal y u) (posTotal u)

/-- A sum over 32 rows of 1250 is a sum over positions. -/
theorem sum_rows (f : Fin 32 → Fin 1250 → EReal) (g : Fin 40000 → EReal)
    (h : ∀ s l (p : Fin 40000), p.val = 1250 * s.val + l.val → f s l = g p) : ∑ s, ∑ l, f s l = ∑ p, g p := by
  rw [← Fintype.sum_prod_type' f]
  exact Fintype.sum_equiv (finProdFinEquiv (m := 32) (n := 1250)) _ g
    fun q => h q.1 q.2 _ (Nat.add_comm q.2.val (1250 * q.1.val))

/-- A sum over the anchors of an image is a sum over anchor numbers and positions. -/
theorem sum_anchors (f : Fin 80000 → EReal) (g : Fin 2 → Fin 40000 → EReal)
    (h : ∀ a p, f (anchor p a) = g a p) : ∑ n, f n = ∑ a, ∑ p, g a p := by
  rw [Finset.sum_comm, ← Fintype.sum_prod_type' fun p a => g a p]
  refine (Fintype.sum_equiv (finProdFinEquiv (m := 40000) (n := 2)) (fun q => g q.2 q.1) f fun q => ?_).symm
  rw [← h q.2 q.1]
  exact congrArg f (Fin.ext (Nat.add_comm (2 * q.1.val) q.2.val))

end Cert.DetLoss
end
-- ==== Proof.Cells.lean ====
module

public import proofs.«01_k».proof.Proof.Reads
public import proofs.«01_k».proof.Proof.Totals

/-!
  # The four totals after the last grid point

  Grid point `b` adds the terms of image `b`, so the cells hold the totals after the fourth point.
-/

@[expose] public section
set_option maxRecDepth 16384
noncomputable section
namespace Cert.KernelIdeal.Cells
open Idealize.ShloMosaic Idealize.ShloMosaic.TcCoe Idealize.SL.Sem
open Cert.KernelIdeal Cert.KernelIdeal.Gen Cert.DetLoss Cert.KernelIdeal.Block Cert.KernelIdeal.Step
open Cert.KernelIdeal.Reads

/-- The class scores by anchor. -/
def scores (x : Vec Ideal S4x2x200x200 .f32) : PerAnchor := fun b a p => x (ix4 b a (row p) (col p))

/-- The class labels by anchor, after their staging as bytes. -/
def labels (x : Vec Ideal S4x200x200x2 .f32) : PerAnchor := fun b a p => byteVal (stage (x (ix4 b (row p) (col p) a)))

/-- The regression outputs by anchor. -/
def outs (x : Vec Ideal S4x18x200x200 .f32) : NinePerAnchor :=
  fun b a k p => x (ix4 b ⟨9 * a.val + k.val, by omega⟩ (row p) (col p))

/-- The regression labels by anchor, after their staging as bytes. -/
def marks (x : Vec Ideal S4x80000x9 .f32) : NinePerAnchor :=
  fun b a k p => byteVal (stage (x (ix3 b (anchor p a) k)))

variable (m : (ℓ : Loc nD τ sig) → Buf (Elt Ideal) ℓ) (c : Dev nD)

/-- The class scores the kernel is given. -/
abbrev X : PerAnchor := scores (m ((c.tc : Thread nD τ).loc main_arg0))
/-- The class labels the kernel is given. -/
abbrev T : PerAnchor := labels (m ((c.tc : Thread nD τ).loc main_arg2))
/-- The regression outputs the kernel is given. -/
abbrev Y : NinePerAnchor := outs (m ((c.tc : Thread nD τ).loc main_arg1))
/-- The regression labels the kernel is given. -/
abbrev U : NinePerAnchor := marks (m ((c.tc : Thread nD τ).loc main_arg3))

/-- The four numbers a point adds. -/
def gain (b : Fin 4) : Fin 4 → EReal :=
  ![∑ a : Fin 2, ∑ p, focal (X m c b a p) (T m c b a p),
    ∑ a : Fin 2, ∑ k : Fin 7, ∑ p,
      huber (box (Y m c) b a k p - U m c b a ⟨k.val + 1, by omega⟩ p) * isPos (U m c b a 0 p),
    ∑ a : Fin 2, ∑ p, softCe (Y m c b a 7 p) (Y m c b a 8 p) (U m c b a 8 p) * isPos (U m c b a 0 p),
    ∑ a : Fin 2, ∑ p, isPos (U m c b a 0 p)]

section Gains

variable (t : Fin cfg0.N) (b : Fin 4) (hb : b.val = t.val)
include hb

/-- The class terms of image `b`. -/
theorem gain_cls : clsSum (iblk m c 0 t) (iblk m c 1 t) = ∑ a : Fin 2, ∑ p, focal (X m c b a p) (T m c b a p) := by
  refine Finset.sum_congr rfl fun a _ => sum_rows _ _ fun s l p hp => ?_
  exact congrArg₂ focal (read0 m c t b hb a s l p hp) (congrArg byteVal (read1 m c t b hb a s l p hp))

/-- The positive anchors of image `b`. -/
theorem gain_pos : posGain (iblk m c 3 t) = ∑ a : Fin 2, ∑ p, isPos (U m c b a 0 p) := by
  rw [Fin.sum_univ_two]
  refine congrArg₂ (· + ·) (sum_rows _ _ fun s l p hp => congrArg (fun w => isPos (byteVal w)) ?_)
    (sum_rows _ _ fun s l p hp => congrArg (fun w => isPos (byteVal w)) ?_)
  · exact read3 m c t b hb 0 _ s l p hp 0 rfl
  · exact read3 m c t b hb 1 _ s l p hp 0 rfl

/-- The orientation terms of image `b`. -/
theorem gain_ce : ceGain (iblk m c 2 t) (iblk m c 3 t)
    = ∑ a : Fin 2, ∑ p, softCe (Y m c b a 7 p) (Y m c b a 8 p) (U m c b a 8 p) * isPos (U m c b a 0 p) := by
  rw [Fin.sum_univ_two]
  refine congrArg₂ (· + ·) (sum_rows _ _ fun s l p hp => ?_) (sum_rows _ _ fun s l p hp => ?_)
  · refine congrArg₂ (· * ·) ?_ (congrArg (fun w => isPos (byteVal w)) (read3 m c t b hb 0 _ s l p hp 0 rfl))
    have e := congrArg byteVal (read3 m c t b hb 0 ⟨8, by decide⟩ s l p hp 8 rfl)
    exact (congrArg (softCe _ _) e).trans (congrArg₂ (fun v w => softCe v w _)
      (read2 m c t b hb _ s l p hp) (read2 m c t b hb _ s l p hp))
  · refine congrArg₂ (· * ·) ?_ (congrArg (fun w => isPos (byteVal w)) (read3 m c t b hb 1 _ s l p hp 0 rfl))
    have e := congrArg byteVal (read3 m c t b hb 1 ⟨17, by decide⟩ s l p hp 8 rfl)
    exact (congrArg (softCe _ _) e).trans (congrArg₂ (fun v w => softCe v w _)
      (read2 m c t b hb _ s l p hp) (read2 m c t b hb _ s l p hp))

/-- The smooth-L1 terms of image `b`. -/
theorem gain_sl : slGain (iblk m c 2 t) (iblk m c 3 t)
    = ∑ a : Fin 2, ∑ k : Fin 7, ∑ p,
        huber (box (Y m c) b a k p - U m c b a ⟨k.val + 1, by omega⟩ p) * isPos (U m c b a 0 p) := by
  rw [Fin.sum_univ_two]
  refine congrArg₂ (· + ·) (Finset.sum_congr rfl fun k _ => sum_rows _ _ fun s l p hp => ?_)
    (Finset.sum_congr rfl fun k _ => sum_rows _ _ fun s l p hp => ?_)
  · refine congrArg₂ (· * ·) (congrArg huber (congrArg₂ (· - ·) ?_ (congrArg byteVal ?_)))
      (congrArg (fun w => isPos (byteVal w)) (read3 m c t b hb 0 _ s l p hp 0 rfl))
    · have e := read2 m c t b hb ⟨0 + k.val, by omega⟩ s l p hp
      have e' : planes (iblk m c 2 t) 0 (by decide) k s l = Y m c b 0 ⟨k.val, by omega⟩ p := e
      simp only [bent, box, e', true_and]
    · exact read3 m c t b hb 0 _ s l p hp ⟨k.val + 1, by omega⟩ (by simp; omega)
  · refine congrArg₂ (· * ·) (congrArg huber (congrArg₂ (· - ·) ?_ (congrArg byteVal ?_)))
      (congrArg (fun w => isPos (byteVal w)) (read3 m c t b hb 1 _ s l p hp 0 rfl))
    · have e := read2 m c t b hb ⟨9 + k.val, by omega⟩ s l p hp
      have e' : planes (iblk m c 2 t) 9 (by decide) k s l = Y m c b 1 ⟨k.val, by omega⟩ p := e
      rw [e', box, if_neg (by simp)]
    · exact read3 m c t b hb 1 _ s l p hp ⟨k.val + 1, by omega⟩ (by simp; omega)

/-- What a point leaves in the cells, from what it finds there. -/
theorem after_gain (A : Vec Ideal S4 .f32) :
    after A (iblk m c 0 t) (iblk m c 1 t) (iblk m c 2 t) (iblk m c 3 t) = fun j => A j + gain m c b (j 0) := by
  unfold after gain
  rw [gain_cls m c t b hb, gain_sl m c t b hb, gain_ce m c t b hb, gain_pos m c t b hb]

end Gains

/-- The cells after the first point. -/
theorem cells0 : (outsAt0 m c t0_0.val t0_0.isLt).2 = fun j => 0 + gain m c 0 (j 0) := by
  rw [outsAt0_A m c t0_0 (by decide) (by decide)]
  dsimp only
  rw [cells_A]
  exact after_gain m c t0_0 0 rfl _

/-- The cells after the second point. -/
theorem cells1 : (outsAt0 m c t0_1.val t0_1.isLt).2 = fun j => 0 + gain m c 0 (j 0) + gain m c 1 (j 0) := by
  rw [outsAt0_B m c t0_1 (by decide) (by decide)]
  dsimp only
  rw [cells_B]
  refine (after_gain m c t0_1 1 rfl _).trans (funext fun j => congrArg (· + gain m c 1 (j 0)) ?_)
  exact congrFun (cells0 m c) j

/-- The cells after the third point. -/
theorem cells2 : (outsAt0 m c t0_2.val t0_2.isLt).2
    = fun j => 0 + gain m c 0 (j 0) + gain m c 1 (j 0) + gain m c 2 (j 0) := by
  rw [outsAt0_B m c t0_2 (by decide) (by decide)]
  dsimp only
  rw [cells_B]
  refine (after_gain m c t0_2 2 rfl _).trans (funext fun j => congrArg (· + gain m c 2 (j 0)) ?_)
  exact congrFun (cells1 m c) j

/-- The four totals, one after the other. -/
theorem total (k : Fin 4) : 0 + gain m c 0 k + gain m c 1 k + gain m c 2 k + gain m c 3 k = ∑ b : Fin 4, gain m c b k := by
  rw [Fin.sum_univ_four, zero_add]

/-- What the last point writes is the loss. -/
theorem written (j : S1x1.Idx) :
    (outsAt0 m c t0_3.val t0_3.isLt).1 j = loss (X m c) (T m c) (Y m c) (U m c) := by
  rw [outsAt0_C m c t0_3 (by decide) (by decide)]
  dsimp only
  rw [result_C]
  have e : ∀ k : Fin 4, after (outsAt0 m c t0_2.val t0_2.isLt).2 (iblk m c 0 t0_3) (iblk m c 1 t0_3) (iblk m c 2 t0_3)
      (iblk m c 3 t0_3) (ix1 k) = ∑ b : Fin 4, gain m c b k := fun k => by
    rw [after_gain m c t0_3 3 rfl, cells2, ← total]
    rfl
  unfold loss
  refine Eq.trans ?_ (congrArg₂ (fun f g => f g) (congrArg₂ (fun f g => f g) (congrArg₂ combine (e 0) (e 1)) (e 2)) (e 3))
  rfl

end Cert.KernelIdeal.Cells
end
-- ==== Proof.KernelResult.lean ====
module

public import proofs.«01_k».proof.Proof.Cells

/-!
  # The kernel's result is the loss
-/

@[expose] public section
set_option maxRecDepth 16384
noncomputable section
namespace Cert.KernelIdeal.KernelResult
open Idealize.ShloMosaic Idealize.ShloMosaic.TcCoe Idealize.SL.Sem
open Cert.KernelIdeal Cert.KernelIdeal.Gen Cert.DetLoss Cert.KernelIdeal.Cells

variable (m : (ℓ : Loc nD τ sig) → Buf (Elt Ideal) ℓ) (c : Dev nD)

/-- The output array after the run holds the loss. -/
theorem array : (dats m 0 c).arrAt 4 cfg0.N = fun _ => loss (X m c) (T m c) (Y m c) (U m c) := by
  refine (dats m 0 c).arrAt_eq_of_after_last 4 t0_3 (by decide +kernel) _ fun j => ?_
  rw [after0_4]
  exact written m c _

/-- The value the program returns, read off the output array, is the loss. -/
theorem returned : Pipeline.afterTail₀ cfgs (dats m) 0 (V0 m) [hostOps1] c main_v12
    = fun _ => loss (X m c) (T m c) (Y m c) (U m c) := by
  unfold Pipeline.afterTail₀
  have e := Pipeline.withArrays_arr spec0 (by decide) c (V0 m c) (fun w => (dats m 0 c).arrAt w cfg0.N) 4
  after_results
  funext j
  exact congrFun (e.trans (array m c)) _

/-- From any memory the kernel runs, returns the loss of its arguments and leaves them unchanged. -/
theorem run (ρ : Dev nD → PrngReg) : θ_run defs (onTc (τ := τ) (main (F := Ideal))) ⟨m, fun _ => 0, ρ⟩ (fun r => ∀ c : Dev nD,
      r.2.mem ((c.tc : Thread nD τ).loc main_v12) = (fun _ => loss (X m c) (T m c) (Y m c) (U m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v12 (Pipeline.mem_restRefs_of main_v12 (by decide) (by decide))).trans (returned m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelResult
end
-- ==== Proof.Take.lean ====
module

public import proofs.«01_k».proof.Proof.Gen.ReferenceIdeal.Run
public import Idealize.ShloMosaic.Lib.Routing.OpsSet
public import Idealize.ShloMosaic.Lib.Pointwise

/-!
  # The reference's column write and its choice along an axis

  The reference writes one column of an array of eighteen columns, and picks one of two columns by an integer table.
-/

@[expose] public section
set_option maxRecDepth 16384
noncomputable section
namespace Cert.ReferenceIdeal.Take
open Idealize.ShloMosaic Idealize.ShloMosaic.TcCoe
open Cert.ReferenceIdeal Cert.ReferenceIdeal.Gen

/-- Where an update of the column write lands: at its own image, row and column, in column six. -/
theorem lands (i : IVec S1 32) (hi : ∀ j, i j = 6#32) (k : S4x200x200.Idx) (b : Fin 4) (r q : Fin 200) (ch : Fin 18) :
    scatter_S4x200x200x18_S1_S4x200x200_012_3_3_0.resultIdx? k i = some (ix4 b r q ch)
      ↔ k = ix3 b r q ∧ ch = 6 := by
  rw [Routing.resultIdx?_eq_some]
  have w0 : scatter_S4x200x200x18_S1_S4x200x200_012_3_3_0.window k 0 = (k 0).val := rfl
  have w1 : scatter_S4x200x200x18_S1_S4x200x200_012_3_3_0.window k 1 = (k 1).val := rfl
  have w2 : scatter_S4x200x200x18_S1_S4x200x200_012_3_3_0.window k 2 = (k 2).val := rfl
  have w3 : scatter_S4x200x200x18_S1_S4x200x200_012_3_3_0.window k 3 = 0 := rfl
  have s0 : scatter_S4x200x200x18_S1_S4x200x200_012_3_3_0.start k i 0 = 0 := rfl
  have s1 : scatter_S4x200x200x18_S1_S4x200x200_012_3_3_0.start k i 1 = 0 := rfl
  have s2 : scatter_S4x200x200x18_S1_S4x200x200_012_3_3_0.start k i 2 = 0 := rfl
  have s3 : scatter_S4x200x200x18_S1_S4x200x200_012_3_3_0.start k i 3 = 6 :=
    (congrArg BitVec.toInt (hi _)).trans (by decide)
  constructor
  · intro h
    have h0 := h 0; have h1 := h 1; have h2 := h 2; have h3 := h 3
    rw [w0, s0] at h0; rw [w1, s1] at h1; rw [w2, s2] at h2; rw [w3, s3] at h3
    have e0 : (k 0).val = b.val := by have e : ((ix4 b r q ch : S4x200x200x18.Idx) 0).val = b.val := rfl; omega
    have e1 : (k 1).val = r.val := by have e : ((ix4 b r q ch : S4x200x200x18.Idx) 1).val = r.val := rfl; omega
    have e2 : (k 2).val = q.val := by have e : ((ix4 b r q ch : S4x200x200x18.Idx) 2).val = q.val := rfl; omega
    have e3 : ch.val = 6 := by have e : ((ix4 b r q ch : S4x200x200x18.Idx) 3).val = ch.val := rfl; omega
    refine ⟨?_, Fin.ext e3⟩
    exact (eq_ix3 k).trans ((ix3_inj ..).mpr ⟨Fin.ext e0, Fin.ext e1, Fin.ext e2⟩)
  · rintro ⟨rfl, rfl⟩ a
    fin_cases a
    · exact (congrArg₂ (fun x (y : Nat) => x + (y : Int)) s0 w0).trans (by simp)
    · exact (congrArg₂ (fun x (y : Nat) => x + (y : Int)) s1 w1).trans (by simp)
    · exact (congrArg₂ (fun x (y : Nat) => x + (y : Int)) s2 w2).trans (by simp)
    · exact (congrArg₂ (fun x (y : Nat) => x + (y : Int)) s3 w3).trans (by rfl)

/-- The column write: column six is the update, the others are the operand's. -/
theorem column {α : Type} (x : S4x200x200x18.Idx → α) (i : IVec S1 32) (hi : ∀ j, i j = 6#32) (u : S4x200x200.Idx → α)
    (b : Fin 4) (r q : Fin 200) (ch : Fin 18) :
    Host.scatter scatter_S4x200x200x18_S1_S4x200x200_012_3_3_0 (fun _ v => v) x i u (ix4 b r q ch)
      = if ch = 6 then u (ix3 b r q) else x (ix4 b r q ch) := by
  by_cases h : ch = 6
  · rw [if_pos h]
    refine Routing.scatter_set_hit _ x i u _ _ (fun k hk => ?_) (ix3 b r q) ((lands i hi _ b r q ch).2 ⟨rfl, h⟩)
    rw [((lands i hi k b r q ch).1 hk).1]
  · rw [if_neg h]
    exact Routing.scatter_set_miss _ x i u _ fun k hk => h ((lands i hi k b r q ch).1 hk).2

/-- The choice along the last axis: entry `(b, n)` reads column `k` where the table holds `k`. -/
theorem choose {α : Type} (x : S4x80000x2.Idx → α) (i : IVec S4x80000x1x1 32) (b : Fin 4) (n : Fin 80000) (k : Fin 2)
    (hk : (i (ix4 b n 0 0)).toInt = (k.val : Int)) :
    Host.gather gather_S4x80000x2_S4x80000x1x1_S4x80000x1_n_2_01_01_2_3_111 x i (ix3 b n 0) = x (ix3 b n k) := by
  refine congrArg x (funext fun a => Fin.ext ?_)
  fin_cases a
  · show 0 + b.val + 0 = b.val
    omega
  · show 0 + n.val + 0 = n.val
    omega
  · have e : (gather_S4x80000x2_S4x80000x1x1_S4x80000x1_n_2_01_01_2_3_111.siIdx (ix3 b n 0)
        ⟨0, Nat.zero_lt_one⟩ : S4x80000x1x1.Idx) = ix4 b n 0 0 := by
      funext a; apply Fin.ext; fin_cases a <;> rfl
    show min (i (gather_S4x80000x2_S4x80000x1x1_S4x80000x1_n_2_01_01_2_3_111.siIdx (ix3 b n 0)
        ⟨0, Nat.zero_lt_one⟩)).toInt.toNat 1 + 0 + 0 = k.val
    rw [e, hk]
    omega

end Cert.ReferenceIdeal.Take
end
-- ==== Proof.Parts.lean ====
module

public import proofs.«01_k».proof.Proof.Take

/-!
  # The reference's result by named parts

  The reference's one result is a term in its four arguments. Here the parts of that term that come back several
    times,
  or that mean something on their own, have names.
-/

@[expose] public section
set_option maxRecDepth 16384
noncomputable section
namespace Cert.ReferenceIdeal.Parts
open Idealize.ShloMosaic Idealize.ShloMosaic.TcCoe Idealize.SL.Sem
open Cert.ReferenceIdeal Cert.ReferenceIdeal.Gen

/-- The class scores, one row of anchors an image. -/
def score (x : FVec Ideal S4x2x200x200 .f32) : FVec Ideal S4x80000 .f32 :=
  shapeCast _ (transpose S4x200x200x2 [0, 2, 3, 1] x transposes_S4x2x200x200_S4x200x200x2_0_2_3_1)
    shapeCasts_S4x200x200x2_S4x80000

/-- The class labels, one row of anchors an image. -/
def label (x : FVec Ideal S4x200x200x2 .f32) : FVec Ideal S4x80000 .f32 :=
  shapeCast _ x shapeCasts_S4x200x200x2_S4x80000

/-- One on the positive anchors, zero on the others. -/
def flags (u : FVec Ideal S4x80000x9 .f32) : FVec Ideal S4x80000 .f32 :=
  uitofp .f32 (cmpf .oeq (shapeCast _ (extractStridedSlice S4x80000x1 ![0, 0, 0] u slices_S4x80000x9_S4x80000x1_0_0_0)
    shapeCasts_S4x80000x1_S4x80000) (broadcastInDim S4x80000 ![] bcast_S_S4x80000 (constant S_ .f32 0x3F800000#32)))

/-- The regression outputs by anchor, column six of eighteen through the hyperbolic tangent. -/
def outputs (y : FVec Ideal S4x18x200x200 .f32) : FVec Ideal S4x80000x9 .f32 :=
  shapeCast _ (Host.scatter scatter_S4x200x200x18_S1_S4x200x200_012_3_3_0 (fun _ b => b) (transpose S4x200x200x18 [0,
    2, 3, 1] y transposes_S4x18x200x200_S4x200x200x18_0_2_3_1) (broadcastInDim S1 ![] bcast_S_S1 (constantI S_ 32
    6#32)) (Host.tanh (shapeCast _ (extractStridedSlice S4x200x200x1 ![0, 0, 0, 6] (transpose S4x200x200x18 [0, 2, 3,
    1] y transposes_S4x18x200x200_S4x200x200x18_0_2_3_1) slices_S4x200x200x18_S4x200x200x1_0_0_0_6)
    shapeCasts_S4x200x200x1_S4x200x200))) shapeCasts_S4x200x200x18_S4x80000x9

/-- The orientation label as an index into the two scores. -/
def target (u : FVec Ideal S4x80000x9 .f32) : IVec S4x80000x1 32 :=
  select (cmpi .slt (broadcastInDim S4x80000x1 ![0, 1] bcast_S4x80000_S4x80000x1_0_1 (fptosi 32 (shapeCast _
    (extractStridedSlice S4x80000x1 ![0, 0, 8] u slices_S4x80000x9_S4x80000x1_0_0_8) shapeCasts_S4x80000x1_S4x80000)))
    (broadcastInDim S4x80000x1 ![] bcast_S_S4x80000x1 (constantI S_ 32 0#32))) (addi (broadcastInDim S4x80000x1 ![0,
    1] bcast_S4x80000_S4x80000x1_0_1 (fptosi 32 (shapeCast _ (extractStridedSlice S4x80000x1 ![0, 0, 8] u
    slices_S4x80000x9_S4x80000x1_0_0_8) shapeCasts_S4x80000x1_S4x80000))) (broadcastInDim S4x80000x1 ![]
    bcast_S_S4x80000x1 (constantI S_ 32 2#32))) (broadcastInDim S4x80000x1 ![0, 1] bcast_S4x80000_S4x80000x1_0_1
    (fptosi 32 (shapeCast _ (extractStridedSlice S4x80000x1 ![0, 0, 8] u slices_S4x80000x9_S4x80000x1_0_0_8)
    shapeCasts_S4x80000x1_S4x80000)))

/-- The two orientation scores. -/
def logits (w : FVec Ideal S4x80000x9 .f32) : FVec Ideal S4x80000x2 .f32 :=
  extractStridedSlice S4x80000x2 ![0, 0, 7] w slices_S4x80000x9_S4x80000x2_0_0_7

/-- The two scores less their maximum. -/
def centred (z : FVec Ideal S4x80000x2 .f32) : FVec Ideal S4x80000x2 .f32 :=
  subf z (broadcastInDim S4x80000x2 ![0, 1, 2] bcast_S4x80000x1_S4x80000x2_0_1_2 (broadcastInDim S4x80000x1 ![0, 1]
    bcast_S4x80000_S4x80000x1_0_1 (maximumf (broadcastInDim S4x80000 ![] bcast_S_S4x80000 (constant S_ .f32
    0xFF800000#32)) (Host.reduce FloatOps.maximumf z (constant S_ .f32 0xFF800000#32) reducesTo_S4x80000x2_S4x80000_d2
    h_S_))))

/-- Centred scores less the logarithm of the sum of their exponentials. -/
def logProb (z : FVec Ideal S4x80000x2 .f32) : FVec Ideal S4x80000x2 .f32 :=
  subf z (broadcastInDim S4x80000x2 ![0, 1, 2] bcast_S4x80000x1_S4x80000x2_0_1_2 (Host.log (broadcastInDim S4x80000x1
    ![0, 1] bcast_S4x80000_S4x80000x1_0_1 (Host.reduceAdd (Host.exp z) (constant S_ .f32 0x00000000#32)
    reducesTo_S4x80000x2_S4x80000_d2 h_S_))))

/-- The entry an index picks, where it is in range. -/
def chosen (i : IVec S4x80000x1 32) (z : FVec Ideal S4x80000x2 .f32) : FVec Ideal S4x80000x1 .f32 :=
  select (Host.reduce IntOp.andi (andi (cmpi .sge (shapeCast _ i shapeCasts_S4x80000x1_S4x80000x1x1) (broadcastInDim
    S4x80000x1x1 ![] bcast_S_S4x80000x1x1 (constantI S_ 32 0#32))) (cmpi .sle (shapeCast _ i
    shapeCasts_S4x80000x1_S4x80000x1x1) (broadcastInDim S4x80000x1x1 ![0, 1, 2, 3] bcast_S1x1x1x1_S4x80000x1x1_0_1_2_3
    (broadcastInDim S1x1x1x1 ![3] bcast_S1_S1x1x1x1_3 (constantI S1 32 1#32))))) (constantI S_ 1 1#1)
    reducesTo_S4x80000x1x1_S4x80000x1_d3 h_S_) (Host.gather
    gather_S4x80000x2_S4x80000x1x1_S4x80000x1_n_2_01_01_2_3_111 z (shapeCast _ i shapeCasts_S4x80000x1_S4x80000x1x1))
    (broadcastInDim S4x80000x1 ![] bcast_S_S4x80000x1 (constant S_ .f32 0x7FC00000#32))

/-- The orientation terms. -/
def ceTerms (v : FVec Ideal S4x80000x1 .f32) (f : FVec Ideal S4x80000 .f32) : FVec Ideal S4x80000 .f32 :=
  mulf (Host.negf (shapeCast _ v shapeCasts_S4x80000x1_S4x80000)) f

/-- The box outputs less the box labels. -/
def offsets (w u : FVec Ideal S4x80000x9 .f32) : FVec Ideal S4x80000x7 .f32 :=
  subf (extractStridedSlice S4x80000x7 ![0, 0, 0] w slices_S4x80000x9_S4x80000x7_0_0_0) (extractStridedSlice
    S4x80000x7 ![0, 0, 1] u slices_S4x80000x9_S4x80000x7_0_0_1)

/-- The smooth-L1 terms. -/
def slTerms (d : FVec Ideal S4x80000x7 .f32) (f : FVec Ideal S4x80000 .f32) : FVec Ideal S4x80000x7 .f32 :=
  mulf (select (cmpf .olt (Host.absf d) (broadcastInDim S4x80000x7 ![] bcast_S_S4x80000x7 (constant S_ .f32
    0x3F800000#32))) (mulf (mulf (broadcastInDim S4x80000x7 ![] bcast_S_S4x80000x7 (constant S_ .f32 0x3F000000#32))
    d) d) (subf (Host.absf d) (broadcastInDim S4x80000x7 ![] bcast_S_S4x80000x7 (constant S_ .f32 0x3F000000#32))))
    (broadcastInDim S4x80000x7 ![0, 1, 2] bcast_S4x80000x1_S4x80000x7_0_1_2 (broadcastInDim S4x80000x1 ![0, 1]
    bcast_S4x80000_S4x80000x1_0_1 f))

/-- The class terms. -/
def clsTerms (x t : FVec Ideal S4x80000 .f32) : FVec Ideal S4x80000 .f32 :=
  mulf (mulf (id (select (cmpf .oeq t (broadcastInDim S4x80000 ![] bcast_S_S4x80000 (constant S_ .f32 0x3F800000#32)))
    (broadcastInDim S4x80000 ![] bcast_S_S4x80000 (constant S_ .f32 0x447A0000#32)) (broadcastInDim S4x80000 ![]
    bcast_S_S4x80000 (constant S_ .f32 0x3F800000#32)))) (Host.powf (subf (broadcastInDim S4x80000 ![]
    bcast_S_S4x80000 (constant S_ .f32 0x3F800000#32)) (select (cmpf .oeq t (broadcastInDim S4x80000 ![]
    bcast_S_S4x80000 (constant S_ .f32 0x3F800000#32))) (Host.divf (broadcastInDim S4x80000 ![] bcast_S_S4x80000
    (constant S_ .f32 0x3F800000#32)) (addf (broadcastInDim S4x80000 ![] bcast_S_S4x80000 (constant S_ .f32
    0x3F800000#32)) (Host.exp (Host.negf x)))) (subf (broadcastInDim S4x80000 ![] bcast_S_S4x80000 (constant S_ .f32
    0x3F800000#32)) (Host.divf (broadcastInDim S4x80000 ![] bcast_S_S4x80000 (constant S_ .f32 0x3F800000#32)) (addf
    (broadcastInDim S4x80000 ![] bcast_S_S4x80000 (constant S_ .f32 0x3F800000#32)) (Host.exp (Host.negf x)))))))
    (broadcastInDim S4x80000 ![] bcast_S_S4x80000 (constant S_ .f32 0x40000000#32)))) (addf (subf (maximumf x
    (broadcastInDim S4x80000 ![] bcast_S_S4x80000 (constant S_ .f32 0x00000000#32))) (mulf x t)) (Host.log1p (Host.exp
    (Host.negf (Host.absf x)))))

/-- The reference's loss as a term in its arguments. -/
def whole (x : FVec Ideal S4x2x200x200 .f32) (y : FVec Ideal S4x18x200x200 .f32) (t : FVec Ideal S4x200x200x2 .f32)
    (u : FVec Ideal S4x80000x9 .f32) : FVec Ideal S_ .f32 :=
  addf (addf (mulf (constant S_ .f32 0x3F800000#32) (Host.divf (Host.reduceAdd (clsTerms (score x) (label t))
    (constant S_ .f32 0x00000000#32) reducesTo_S4x80000_S_d0_1 h_S_) (constant S_ .f32 0x489C4000#32))) (mulf
    (constant S_ .f32 0x3E4CCCCD#32) (Host.divf (Host.reduceAdd (ceTerms (chosen (target u) (logProb (centred (logits
    (outputs y))))) (flags u)) (constant S_ .f32 0x00000000#32) reducesTo_S4x80000_S_d0_1 h_S_) (Host.reduceAdd (flags
    u) (constant S_ .f32 0x00000000#32) reducesTo_S4x80000_S_d0_1 h_S_)))) (mulf (constant S_ .f32 0x40000000#32)
    (Host.divf (Host.reduceAdd (slTerms (offsets (outputs y) u) (flags u)) (constant S_ .f32 0x00000000#32)
    reducesTo_S4x80000x7_S_d0_1_2 h_S_) (mulf (Host.reduceAdd (flags u) (constant S_ .f32 0x00000000#32)
    reducesTo_S4x80000_S_d0_1 h_S_) (constant S_ .f32 0x40E00000#32))))

/-- The reference's result is that term. -/
theorem result (m : (ℓ : Loc nD τ sig) → Buf (Elt Ideal) ℓ) (c : Dev nD) :
    Value.res_out0 (F := Ideal) m c
      = whole (m ((c.tc : Thread nD τ).loc main_arg0)) (m ((c.tc : Thread nD τ).loc main_arg1))
          (m ((c.tc : Thread nD τ).loc main_arg2)) (m ((c.tc : Thread nD τ).loc main_arg3)) := rfl

end Cert.ReferenceIdeal.Parts
end
-- ==== Proof.ReadRef.lean ====
module

public import proofs.«01_k».proof.Proof.Parts
public import proofs.«01_k».proof.Proof.Totals

/-!
  # The parts of the reference's result read at one anchor
-/

@[expose] public section
set_option maxRecDepth 16384
noncomputable section
namespace Cert.ReferenceIdeal.ReadRef
open Idealize.ShloMosaic Idealize.ShloMosaic.TcCoe
open Cert.ReferenceIdeal Cert.ReferenceIdeal.Gen Cert.ReferenceIdeal.Parts Cert.DetLoss

variable (b : Fin 4) (a : Fin 2) (p : Fin 40000) (n : Fin 80000)

/-- The class score of an anchor. -/
theorem score_at (x : FVec Ideal S4x2x200x200 .f32) : score x (ix2 b (anchor p a)) = x (ix4 b a (row p) (col p)) := by
  pointwise [score]
  refine congrArg x ((ix4_inj ..).mpr ⟨rfl, Fin.ext ?_, Fin.ext ?_, Fin.ext ?_⟩) <;> simp only [row, col, anchor] <;> omega

/-- The class label of an anchor. -/
theorem label_at (x : FVec Ideal S4x200x200x2 .f32) : label x (ix2 b (anchor p a)) = x (ix4 b (row p) (col p) a) := by
  pointwise [label]
  refine congrArg x ((ix4_inj ..).mpr ⟨rfl, Fin.ext ?_, Fin.ext ?_, Fin.ext ?_⟩) <;> simp only [row, col, anchor] <;> omega

/-- A comparison word read as a number. -/
theorem word_of (c : Prop) [Decidable c] :
    (FloatOps.uitofp (F := Ideal) .f32 (BitVec.ofBool (decide c)) : EReal) = if c then 1 else 0 := by
  by_cases h : c
  · rw [if_pos h, decide_eq_true h]
    show (((1 : ℕ) : ℝ) : EReal) = 1
    norm_num
  · rw [if_neg h, decide_eq_false h]
    show (((0 : ℕ) : ℝ) : EReal) = 0
    norm_num

/-- The flag of an anchor. -/
theorem flags_at (u : FVec Ideal S4x80000x9 .f32) : flags u (ix2 b n) = isPos (u (ix3 b n 0)) := by
  pointwise [flags]
  exact word_of _

/-- A regression output of an anchor. -/
theorem outputs_at (y : FVec Ideal S4x18x200x200 .f32) (k : Fin 9) : outputs y (ix3 b (anchor p a) k)
    = if a = 0 ∧ k = 6 then Ideal.tanh (y (ix4 b ⟨9 * a.val + k.val, by omega⟩ (row p) (col p)))
      else y (ix4 b ⟨9 * a.val + k.val, by omega⟩ (row p) (col p)) := by
  pointwise [outputs]
  refine (Take.column (α := EReal) _ _ (fun _ => rfl) _ b _ _ _).trans ?_
  pointwise
  have e1 : (⟨(anchor p a).val / 400, by have := (anchor p a).isLt; omega⟩ : Fin 200) = row p :=
    Fin.ext (by simp only [row, anchor]; omega)
  have e2 : (⟨(anchor p a).val / 2 % 200, by omega⟩ : Fin 200) = col p :=
    Fin.ext (by simp only [col, anchor]; omega)
  have e3 : (⟨(anchor p a).val % 2 * 9 + k.val, by omega⟩ : Fin 18) = ⟨9 * a.val + k.val, by omega⟩ :=
    Fin.ext (by simp only [anchor]; omega)
  rw [e1, e2, e3]
  have e4 : (⟨9 * a.val + k.val, by omega⟩ : Fin 18) = 6 ↔ a = 0 ∧ k = 6 := by
    simp only [Fin.ext_iff]
    have : ((6 : Fin 18) : ℕ) = 6 := rfl
    have : ((6 : Fin 9) : ℕ) = 6 := rfl
    have : ((0 : Fin 2) : ℕ) = 0 := rfl
    omega
  by_cases h : a = 0 ∧ k = 6
  · rw [if_pos h, if_pos (e4.mpr h), e4.mpr h]
  · rw [if_neg h, if_neg (fun h' => h (e4.mp h'))]

/-- An orientation label of zero or one is itself as an index. -/
theorem target_at (u : FVec Ideal S4x80000x9 .f32) (k : Fin 2) (hk : u (ix3 b n 8) = ((k.val : ℝ) : EReal)) :
    target u (ix3 b n 0) = BitVec.ofNat 32 k.val := by
  pointwise [target]
  have e : (FloatOps.fptosi (F := Ideal) (φ := .f32) 32 (u (ix3 b n 8)) : BitVec 32) = BitVec.ofNat 32 k.val := by
    show Ideal.fptosi 32 (u (ix3 b n 8)) = _
    rw [hk, Ideal.fptosi, Ideal.toIntClamped_coe]
    fin_cases k <;> norm_num
  rw [e]
  fin_cases k <;> rfl

/-- The orientation scores are the last two outputs. -/
theorem logits_at (w : FVec Ideal S4x80000x9 .f32) (k : Fin 2) :
    logits w (ix3 b n k) = w (ix3 b n ⟨k.val + 7, by omega⟩) := by
  pointwise [logits]
  exact congrArg (fun j => w (ix3 b n j)) (Fin.ext (Nat.add_comm ..))

/-- The word of the negative infinity. -/
theorem neg_inf : Ideal.ofBits .f32 0xFF800000#32 = ⊥ := by simp [Ideal.ofBits, Ideal.ieee]

/-- The two scores less the greater. -/
theorem centred_at (z : FVec Ideal S4x80000x2 .f32) (k : Fin 2) :
    centred z (ix3 b n k) = z (ix3 b n k) - max (z (ix3 b n 0)) (z (ix3 b n 1)) := by
  pointwise [centred]
  rw [neg_inf]
  refine congrArg (z (ix3 b n k) - ·) ?_
  rw [bot_sup_eq, show (Finset.univ : Finset (Fin 2)) = {0, 1} from rfl, Finset.fold_insert (by decide),
    Finset.fold_singleton, sup_bot_eq]

/-- A score less the logarithm of the two exponentials' sum. -/
theorem logProb_at (z : FVec Ideal S4x80000x2 .f32) (k : Fin 2) :
    logProb z (ix3 b n k) = z (ix3 b n k) - Ideal.log (Ideal.exp (z (ix3 b n 0)) + Ideal.exp (z (ix3 b n 1))) := by
  pointwise [logProb]
  rw [Fin.sum_univ_two]

/-- An index of zero or one picks that entry. -/
theorem chosen_at (i : IVec S4x80000x1 32) (z : FVec Ideal S4x80000x2 .f32) (k : Fin 2)
    (hk : i (ix3 b n 0) = BitVec.ofNat 32 k.val) : chosen i z (ix3 b n 0) = z (ix3 b n k) := by
  have e : shapeCast S4x80000x1x1 i shapeCasts_S4x80000x1_S4x80000x1x1 (ix4 b n 0 0) = i (ix3 b n 0) := by pointwise
  pointwise [chosen]
  rw [Take.choose z _ b n k (by rw [e, hk]; fin_cases k <;> rfl), hk]
  rw [show (Finset.univ : Finset (Fin 1)) = {0} from rfl, Finset.fold_singleton]
  fin_cases k <;> rfl

/-- An orientation term. -/
theorem ceTerms_at (v : FVec Ideal S4x80000x1 .f32) (f : FVec Ideal S4x80000 .f32) :
    ceTerms v f (ix2 b n) = -v (ix3 b n 0) * f (ix2 b n) := by
  pointwise [ceTerms]

/-- A box output less its label. -/
theorem offsets_at (w u : FVec Ideal S4x80000x9 .f32) (k : Fin 7) : offsets w u (ix3 b n k)
    = w (ix3 b n ⟨k.val, by omega⟩) - u (ix3 b n ⟨k.val + 1, by omega⟩) := by
  pointwise [offsets]
  exact congrArg (fun j => w (ix3 b n _) - u (ix3 b n j)) (Fin.ext (Nat.add_comm ..))

/-- A smooth-L1 term. -/
theorem slTerms_at (d : FVec Ideal S4x80000x7 .f32) (f : FVec Ideal S4x80000 .f32) (k : Fin 7) :
    slTerms d f (ix3 b n k) = huber (d (ix3 b n k)) * f (ix2 b n) := by
  pointwise [slTerms]
  rfl

/-- A class term. -/
theorem clsTerms_at (x t : FVec Ideal S4x80000 .f32) : clsTerms x t (ix2 b n)
    = classWeight (t (ix2 b n)) * Ideal.pow (1 - hitProb (x (ix2 b n)) (t (ix2 b n))) (Ideal.ofBits .f32 0x40000000#32)
      * (max (x (ix2 b n)) 0 - x (ix2 b n) * t (ix2 b n) + tailLog (x (ix2 b n))) := by
  pointwise [clsTerms, id]
  rfl

end Cert.ReferenceIdeal.ReadRef
end
-- ==== Proof.Scalars.lean ====
module

public import proofs.«01_k».proof.Proof.Loss

/-!
  # The equations between the two forms of each scalar term
-/

@[expose] public section
noncomputable section
namespace Cert.DetLoss
open Idealize.ShloMosaic

/-- The logistic function is a real number. -/
theorem logistic_real (x : EReal) : ∃ r : ℝ, Ideal.logistic x = (r : EReal) := by
  induction x using EReal.rec with
  | bot =>
    have e : (1 : EReal) + ⊤ = ⊤ := EReal.add_top_of_ne_bot (by decide)
    exact ⟨0, by simp [Ideal.logistic, Ideal.div, e]⟩
  | top => exact ⟨1, by simp [Ideal.logistic, Ideal.div]⟩
  | coe x =>
    refine ⟨(1 + Real.exp (-x))⁻¹, ?_⟩
    have h : (1 : ℝ) + Real.exp (-x) ≠ 0 := by positivity
    have e : (1 : EReal) + Ideal.exp (-(x : EReal)) = ((1 + Real.exp (-x) : ℝ) : EReal) := by
      rw [← EReal.coe_neg, Ideal.exp_coe, EReal.coe_add, EReal.coe_one]
    rw [Ideal.logistic, e, Ideal.div_coe h, one_mul, one_div]

/-- The probability of the labelled class is a real number. -/
theorem hitProb_real (x t : EReal) : ∃ r : ℝ, hitProb x t = (r : EReal) := by
  obtain ⟨r, h⟩ := logistic_real x
  unfold hitProb
  split
  · exact ⟨r, h⟩
  · exact ⟨1 - r, by rw [h, EReal.coe_sub, EReal.coe_one]⟩

/-- The power two of a real number is its square. -/
theorem pow_two_real (r : ℝ) : Ideal.pow (r : EReal) (Ideal.ofBits .f32 0x40000000#32) = (r : EReal) * (r : EReal) := by
  have e : Ideal.ofBits .f32 0x40000000#32 = ((2 : ℝ) : EReal) := by
    simp [Ideal.ofBits, Ideal.ieee]
    rw [← EReal.coe_mul]
    norm_num
  rw [e, ← EReal.coe_mul]
  show ((Real.rpow r 2 : ℝ) : EReal) = _
  congr 1
  show r ^ (2 : ℝ) = r * r
  rw [Real.rpow_two, sq]

/-- The class term with the power two is the class term with the square. -/
theorem focal_eq (x t : EReal) :
    classWeight t * Ideal.pow (1 - hitProb x t) (Ideal.ofBits .f32 0x40000000#32) * (max x 0 - x * t + tailLog x)
      = focal x t := by
  obtain ⟨r, h⟩ := hitProb_real x t
  have e : (1 : EReal) - hitProb x t = ((1 - r : ℝ) : EReal) := by rw [h, EReal.coe_sub, EReal.coe_one]
  rw [focal, e, pow_two_real, ← mul_assoc (classWeight t)]

/-- The softplus form of the cross-entropy of two real scores, the wrong one `w` and the right one `r`. -/
theorem softplus_margin (r w : ℝ) : max (w - r) 0 + Real.log (1 + Real.exp (-|w - r|))
    = -(r - max r w - Real.log (Real.exp (r - max r w) + Real.exp (w - max r w))) := by
  rcases le_total r w with h | h
  · rw [max_eq_right h, max_eq_left (sub_nonneg.mpr h), abs_of_nonneg (sub_nonneg.mpr h), sub_self, Real.exp_zero,
      add_comm (Real.exp _) 1, neg_sub]
    ring
  · rw [max_eq_left h, max_eq_right (sub_nonpos.mpr h), abs_of_nonpos (sub_nonpos.mpr h), sub_self, Real.exp_zero,
      neg_neg]
    ring

/-- The greater of two real numbers. -/
theorem max_coe (r w : ℝ) : max (r : EReal) (w : EReal) = ((max r w : ℝ) : EReal) :=
  (EReal.coe_strictMono.monotone.map_max).symm

/-- The absolute value of a real number. -/
theorem mag_coe (r : ℝ) : mag (r : EReal) = ((|r| : ℝ) : EReal) := by
  rw [mag, ← EReal.coe_neg, max_coe]
  rfl

/-- The tail of the softplus at a real number. -/
theorem tailLog_coe (r : ℝ) : tailLog (r : EReal) = ((Real.log (1 + Real.exp (-|r|)) : ℝ) : EReal) := by
  have h : ¬ (1 + Real.exp (-|r|)) ≤ 0 := not_le.mpr (by positivity)
  rw [tailLog, mag_coe, ← EReal.coe_neg, Ideal.exp_coe, Ideal.log1p, ← EReal.coe_one, ← EReal.coe_add, Ideal.log_coe,
    if_neg h]

/-- The log-probability form at two real scores. -/
theorem logSoftmax_coe (r w : ℝ) :
    (r : EReal) - max (r : EReal) (w : EReal)
        - Ideal.log (Ideal.exp ((r : EReal) - max (r : EReal) (w : EReal))
            + Ideal.exp ((w : EReal) - max (r : EReal) (w : EReal)))
      = ((r - max r w - Real.log (Real.exp (r - max r w) + Real.exp (w - max r w)) : ℝ) : EReal) := by
  have h : ¬ (Real.exp (r - max r w) + Real.exp (w - max r w)) ≤ 0 := not_le.mpr (by positivity)
  rw [max_coe, ← EReal.coe_sub, ← EReal.coe_sub, Ideal.exp_coe, Ideal.exp_coe, ← EReal.coe_add, Ideal.log_coe,
    if_neg h, ← EReal.coe_sub]

/-- The softplus of a margin at two real scores is the negative log-probability of the right one. -/
theorem softplus_coe (r w : ℝ) : max ((w : EReal) - (r : EReal)) 0 + tailLog ((w : EReal) - (r : EReal))
    = -((r : EReal) - max (r : EReal) (w : EReal)
        - Ideal.log (Ideal.exp ((r : EReal) - max (r : EReal) (w : EReal))
            + Ideal.exp ((w : EReal) - max (r : EReal) (w : EReal)))) := by
  rw [logSoftmax_coe, ← EReal.coe_sub, tailLog_coe, ← EReal.coe_zero, max_coe, ← EReal.coe_add, ← EReal.coe_neg,
    softplus_margin]

/-- The negative log-probability of the labelled orientation is the softplus of the margin. -/
theorem softCe_eq (z : Fin 2 → EReal) (k : Fin 2) (hz : ∀ j, ∃ r : ℝ, z j = (r : EReal)) :
    softCe (z 0) (z 1) ((k.val : ℝ) : EReal)
      = -(z k - max (z 0) (z 1)
        - Ideal.log (Ideal.exp (z 0 - max (z 0) (z 1)) + Ideal.exp (z 1 - max (z 0) (z 1)))) := by
  obtain ⟨r, h0⟩ := hz 0
  obtain ⟨w, h1⟩ := hz 1
  fin_cases k
  · have e : margin (z 0) (z 1) ((((0 : Fin 2).val : ℝ)) : EReal) = z 1 - z 0 := by
      rw [margin, if_neg]; simp
    show softCe (z 0) (z 1) ((((0 : Fin 2).val : ℝ)) : EReal) = -(z 0 - _ - _)
    rw [softCe, e, h0, h1]
    exact softplus_coe r w
  · have e : margin (z 0) (z 1) ((((1 : Fin 2).val : ℝ)) : EReal) = z 0 - z 1 := by
      rw [margin, if_pos]; simp
    show softCe (z 0) (z 1) ((((1 : Fin 2).val : ℝ)) : EReal) = -(z 1 - _ - _)
    rw [softCe, e, h0, h1, max_comm (r : EReal), add_comm (Ideal.exp _) (Ideal.exp _)]
    exact softplus_coe w r

/-- An integer in a signed byte's range survives its staging as a byte. -/
theorem stage_int (k : ℤ) (h₁ : -128 ≤ k) (h₂ : k ≤ 127) : byteVal (stage (((k : ℝ)) : EReal)) = ((k : ℝ) : EReal) := by
  have e : Ideal.toIntClamped (-(2 ^ (32 - 1) : Nat)) ((2 ^ (32 - 1) : Nat) - 1) (((k : ℝ)) : EReal) = k := by
    rw [Ideal.toIntClamped_coe]
    simp only [Int.floor_intCast, Int.ceil_intCast, ite_self]
    norm_num
    omega
  rw [byteVal, stage, Ideal.fptosi, e]
  congr 2
  have : (BitVec.setWidth 8 (BitVec.ofInt 32 k)) = BitVec.ofInt 8 k := by
    apply BitVec.eq_of_toNat_eq
    simp only [BitVec.toNat_setWidth, BitVec.toNat_ofInt]
    omega
  rw [this, BitVec.toInt_ofInt]
  simp only [Int.bmod]
  norm_num
  omega

end Cert.DetLoss
end
-- ==== Proof.Precondition.lean ====
module

public import proofs.«01_k».proof.Pre_staged_targets
public import proofs.«01_k».proof.Proof.Scalars
public import Idealize.ShloMosaic.Lib.ReduceAll

/-!
  # What the precondition says

  The labels are integers a signed byte holds, the orientation label is zero or one, the orientation scores are finite.
-/

@[expose] public section
set_option maxRecDepth 16384
noncomputable section
namespace Cert.DetLoss.Inputs
open Idealize.ShloMosaic Idealize.ShloMosaic.TcCoe Cert.Pre_staged_targets Cert.DetLoss

/-- The shape facts the precondition states. -/
theorem facts : Cert.Pre_staged_targets.Facts where
  slices_S4x80000x9_S4x80000x1_0_0_8 := by decide
  shapeCasts_S4x80000x1_S4x80000 := by decide
  bcast_S_S4x200x200x2 := by decide
  reducesTo_S4x200x200x2_S_d0_1_2_3 := by decide
  h_S_ := by decide
  bcast_S_S4x80000x9 := by decide
  reducesTo_S4x80000x9_S_d0_1_2 := by decide
  bcast_S_S4x80000 := by decide
  reducesTo_S4x80000_S_d0_1 := by decide
  slices_S4x18x200x200_S4x2x200x200_0_7_0_0 := by decide
  bcast_S_S4x2x200x200 := by decide
  reducesTo_S4x2x200x200_S_d0_1_2_3 := by decide
  slices_S4x18x200x200_S4x2x200x200_0_16_0_0 := by decide

attribute [local instance] facts

/-- An `and` of two bits is one when both are. -/
theorem both (a b : BitVec 1) : IntOp.andi a b = 1#1 ↔ a = 1#1 ∧ b = 1#1 := by revert a b; decide

/-- An `and` of three bits is one when all are. -/
theorem three (a b c : BitVec 1) (h : IntOp.andi (IntOp.andi a b) c = 1#1) : (a = 1#1 ∧ b = 1#1) ∧ c = 1#1 := by
  simpa only [both] using h

/-- An `or` of two bits is one when one of them is. -/
theorem either (a b : BitVec 1) : IntOp.ori a b = 1#1 ↔ a = 1#1 ∨ b = 1#1 := by revert a b; decide

/-- A truth value is the bit one when it is true. -/
theorem bit (p : Bool) : BitVec.ofBool p = 1#1 ↔ p = true := by cases p <;> decide

/-- A label that its staging as a byte keeps. -/
def Kept (t : EReal) : Prop := byteVal (stage t) = t

/-- A number that is finite. -/
def Bounded (z : EReal) : Prop := ∃ r : ℝ, z = (r : EReal)

/-- A float equal to its floor, at least −128 and at most 127, is kept by its staging as a byte. -/
theorem kept (t : EReal) (hf : t = Ideal.liftRound Int.floor t) (hl : Ideal.ofBits .f32 0xC3000000#32 ≤ t)
    (hu : t ≤ Ideal.ofBits .f32 0x42FE0000#32) : Kept t := by
  have e1 : Ideal.ofBits .f32 0xC3000000#32 = ((-128 : ℝ) : EReal) := by
    simp [Ideal.ofBits, Ideal.ieee]; rw [← EReal.coe_mul]; norm_num
  have e2 : Ideal.ofBits .f32 0x42FE0000#32 = ((127 : ℝ) : EReal) := by
    simp [Ideal.ofBits, Ideal.ieee]; rw [← EReal.coe_mul]; norm_num
  rw [e1] at hl
  rw [e2] at hu
  induction t using EReal.rec with
  | bot => simp at hl
  | top => simp at hu
  | coe r =>
    have h : r = ((Int.floor r : ℤ) : ℝ) := EReal.coe_injective hf
    rw [EReal.coe_le_coe_iff] at hl hu
    rw [h] at hl hu
    rw [h]
    exact stage_int _ (by exact_mod_cast hl) (by exact_mod_cast hu)

/-- A magnitude less than the infinity is that of a finite number. -/
theorem finite (z : EReal) (h : mag z < Ideal.ofBits .f32 0x7F800000#32) : Bounded z := by
  have e : Ideal.ofBits .f32 0x7F800000#32 = ⊤ := by simp [Ideal.ofBits, Ideal.ieee]
  rw [e] at h
  induction z using EReal.rec with
  | bot => exact absurd h (by simp [mag])
  | top => exact absurd h (by simp [mag])
  | coe r => exact ⟨r, rfl⟩

/-- What the precondition says of the arrays. -/
structure Staged (y : FVec Ideal S4x18x200x200 .f32) (t : FVec Ideal S4x200x200x2 .f32) (u : FVec Ideal S4x80000x9 .f32) :
    Prop where
  /-- Every class label is kept by its staging. -/
  cls (i) : Kept (t i)
  /-- Every regression label is kept by its staging. -/
  reg (i) : Kept (u i)
  /-- Every orientation label is zero or one. -/
  dir (b n) : u (ix3 b n 8) = 0 ∨ u (ix3 b n 8) = 1
  /-- The first anchor's orientation scores are finite. -/
  fst (b) (k : Fin 2) (r q) : Bounded (y (ix4 b ⟨7 + k.val, by omega⟩ r q))
  /-- The second anchor's orientation scores are finite. -/
  snd (b) (k : Fin 2) (r q) : Bounded (y (ix4 b ⟨16 + k.val, by omega⟩ r q))

variable {x : FVec Ideal S4x2x200x200 .f32} {y : FVec Ideal S4x18x200x200 .f32} {t : FVec Ideal S4x200x200x2 .f32}
  {u : FVec Ideal S4x80000x9 .f32}

/-- The precondition says all that. -/
theorem staged (h : fn (F := Ideal) x y t u = fun _ => 1#1) : Staged y t u := by
  have e := congrFun h ix0
  dsimp only [fn, fn_part1, fn_part2, andi] at e
  simp only [both] at e
  obtain ⟨⟨⟨e1, e2⟩, e3⟩, e4, e5⟩ := e
  have e1 := Host.reduce_andi_all _ _ _ _ _ e1
  have e2 := Host.reduce_andi_all _ _ _ _ _ e2
  have e3 := Host.reduce_andi_all _ _ _ _ _ e3
  have e4 := Host.reduce_andi_all _ _ _ _ _ e4
  have e5 := Host.reduce_andi_all _ _ _ _ _ e5
  refine ⟨fun i => ?_, fun i => ?_, fun b n => ?_, fun b k r q => ?_, fun b k r q => ?_⟩
  · obtain ⟨⟨h1, h2⟩, h3⟩ := three _ _ _ (e1 i)
    exact kept _ (of_decide_eq_true ((bit _).mp h1)) (of_decide_eq_true ((bit _).mp h2)) (of_decide_eq_true ((bit _).mp h3))
  · obtain ⟨⟨h1, h2⟩, h3⟩ := three _ _ _ (e2 i)
    exact kept _ (of_decide_eq_true ((bit _).mp h1)) (of_decide_eq_true ((bit _).mp h2)) (of_decide_eq_true ((bit _).mp h3))
  · have := e3 (ix2 b n)
    pointwise at this
    simpa only [either, bit, decide_eq_true_eq] using this
  · have := e4 (ix4 b k r q)
    pointwise at this
    rw [bit, decide_eq_true_eq] at this
    exact finite _ this
  · have := e5 (ix4 b k r q)
    pointwise at this
    rw [bit, decide_eq_true_eq] at this
    exact finite _ this

end Cert.DetLoss.Inputs
end
-- ==== Proof.RefTotals.lean ====
module

public import proofs.«01_k».proof.Proof.ReadRef
public import proofs.«01_k».proof.Proof.Precondition

/-!
  # The reference's result is the loss

  The sums over images and anchors are regrouped by anchor number and position, and their terms brought to the form the
  loss names.
-/

@[expose] public section
set_option maxRecDepth 16384
noncomputable section
namespace Cert.ReferenceIdeal.RefTotals
open Idealize.ShloMosaic Idealize.ShloMosaic.TcCoe
open Cert.ReferenceIdeal Cert.ReferenceIdeal.Gen Cert.ReferenceIdeal.Parts Cert.ReferenceIdeal.ReadRef Cert.DetLoss
open Cert.DetLoss.Inputs

/-- The class scores by anchor. -/
def scoreOf (x : FVec Ideal S4x2x200x200 .f32) : PerAnchor := fun b a p => x (ix4 b a (row p) (col p))

/-- The class labels by anchor. -/
def labelOf (t : FVec Ideal S4x200x200x2 .f32) : PerAnchor := fun b a p => t (ix4 b (row p) (col p) a)

/-- The regression outputs by anchor. -/
def outputOf (y : FVec Ideal S4x18x200x200 .f32) : NinePerAnchor :=
  fun b a k p => y (ix4 b ⟨9 * a.val + k.val, by omega⟩ (row p) (col p))

/-- The regression labels by anchor. -/
def markOf (u : FVec Ideal S4x80000x9 .f32) : NinePerAnchor := fun b a k p => u (ix3 b (anchor p a) k)

/-- A total of one number for every anchor. -/
theorem total (f : FVec Ideal S4x80000 .f32) (g : PerAnchor) (h : ∀ b a p, f (ix2 b (anchor p a)) = g b a p) (j : S_.Idx) :
    Host.reduceAdd f (constant S_ .f32 0x00000000#32) reducesTo_S4x80000_S_d0_1 h_S_ j = ∑ b, ∑ a, ∑ p, g b a p := by
  refine (Ideal.hostReduceAdd_total reducesTo_S4x80000_S_d0_1 (by decide) f _ j).trans ?_
  rw [show (constant (F := Ideal) S_ .f32 0x00000000#32 (Shape.Idx.first h_S_) : EReal) = 0 from Ideal.ofBits_zero_f32, zero_add,
    sum_idx2]
  exact Finset.sum_congr rfl fun b _ => sum_anchors _ _ fun a p => h b a p

/-- A total of seven numbers for every anchor. -/
theorem total_seven (f : FVec Ideal S4x80000x7 .f32) (g : Fin 4 → Fin 2 → Fin 7 → Fin 40000 → EReal)
    (h : ∀ b a p k, f (ix3 b (anchor p a) k) = g b a k p) (j : S_.Idx) :
    Host.reduceAdd f (constant S_ .f32 0x00000000#32) reducesTo_S4x80000x7_S_d0_1_2 h_S_ j
      = ∑ b, ∑ a, ∑ k, ∑ p, g b a k p := by
  refine (Ideal.hostReduceAdd_total reducesTo_S4x80000x7_S_d0_1_2 (by decide) f _ j).trans ?_
  rw [show (constant (F := Ideal) S_ .f32 0x00000000#32 (Shape.Idx.first h_S_) : EReal) = 0 from Ideal.ofBits_zero_f32, zero_add,
    sum_idx3]
  refine Finset.sum_congr rfl fun b _ => ?_
  refine (sum_anchors _ (fun a p => ∑ k, g b a k p) fun a p => Finset.sum_congr rfl fun k _ => h b a p k).trans ?_
  exact Finset.sum_congr rfl fun a _ => Finset.sum_comm

variable (x : FVec Ideal S4x2x200x200 .f32) (y : FVec Ideal S4x18x200x200 .f32) (t : FVec Ideal S4x200x200x2 .f32)
  (u : FVec Ideal S4x80000x9 .f32) (j : S_.Idx)

/-- The class total. -/
theorem cls_total : Host.reduceAdd (clsTerms (score x) (label t)) (constant S_ .f32 0x00000000#32)
    reducesTo_S4x80000_S_d0_1 h_S_ j = clsTotal (scoreOf x) (labelOf t) :=
  total _ (fun b a p => focal (scoreOf x b a p) (labelOf t b a p)) (fun b a p => by
    rw [clsTerms_at, score_at, label_at]; exact focal_eq _ _) j

/-- The number of positive anchors. -/
theorem pos_total : Host.reduceAdd (flags u) (constant S_ .f32 0x00000000#32) reducesTo_S4x80000_S_d0_1 h_S_ j
    = posTotal (markOf u) :=
  total _ (fun b a p => isPos (markOf u b a 0 p)) (fun b a p => flags_at b _ u) j

/-- The smooth-L1 total. -/
theorem sl_total : Host.reduceAdd (slTerms (offsets (outputs y) u) (flags u)) (constant S_ .f32 0x00000000#32)
    reducesTo_S4x80000x7_S_d0_1_2 h_S_ j = slTotal (outputOf y) (markOf u) :=
  total_seven _ (fun b a k p => huber (box (outputOf y) b a k p - markOf u b a ⟨k.val + 1, by omega⟩ p)
    * isPos (markOf u b a 0 p)) (fun b a p k => by
    rw [slTerms_at, offsets_at, flags_at, outputs_at]
    have e : (⟨k.val, by omega⟩ : Fin 9) = 6 ↔ k = 6 := by simp only [Fin.ext_iff]; exact Iff.rfl
    simp only [e]
    rfl) j

/-- An orientation score of the reference. -/
theorem logit_at (b a p) (k : Fin 2) : logits (outputs y) (ix3 b (anchor p a) k)
    = outputOf y b a ⟨k.val + 7, by omega⟩ p := by
  rw [logits_at, outputs_at, if_neg fun h => absurd (congrArg Fin.val h.2) (by show k.val + 7 ≠ 6; omega)]
  rfl

/-- The orientation total, where the labels are zero or one and the scores finite. -/
theorem ce_total (h : Staged y t u) : Host.reduceAdd (ceTerms (chosen (target u) (logProb (centred (logits (outputs y)))))
    (flags u)) (constant S_ .f32 0x00000000#32) reducesTo_S4x80000_S_d0_1 h_S_ j = ceTotal (outputOf y) (markOf u) :=
  total _ (fun b a p => softCe (outputOf y b a 7 p) (outputOf y b a 8 p) (markOf u b a 8 p) * isPos (markOf u b a 0 p))
    (fun b a p => by
    obtain ⟨k, hk⟩ : ∃ k : Fin 2, u (ix3 b (anchor p a) 8) = ((k.val : ℝ) : EReal) := by
      rcases h.dir b (anchor p a) with e | e
      · exact ⟨0, by rw [e]; norm_num⟩
      · exact ⟨1, by rw [e]; norm_num⟩
    have hz : ∀ i : Fin 2, Bounded (outputOf y b a ⟨i.val + 7, by omega⟩ p) := fun i => by
      fin_cases a
      · have := h.fst b i (row p) (col p)
        have e : (⟨7 + i.val, by omega⟩ : Fin 18) = ⟨9 * 0 + (i.val + 7), by omega⟩ := Fin.ext (by show 7 + i.val = 9 * 0 + (i.val + 7); omega)
        rw [e] at this; exact this
      · have := h.snd b i (row p) (col p)
        have e : (⟨16 + i.val, by omega⟩ : Fin 18) = ⟨9 * 1 + (i.val + 7), by omega⟩ := Fin.ext (by show 16 + i.val = 9 * 1 + (i.val + 7); omega)
        rw [e] at this; exact this
    rw [ceTerms_at, flags_at, chosen_at b _ _ _ k (target_at b _ u k hk), logProb_at, centred_at, centred_at, centred_at,
      logit_at, logit_at, logit_at]
    have := softCe_eq (fun i => outputOf y b a ⟨i.val + 7, by omega⟩ p) k hz
    rw [← hk] at this
    exact congrArg (· * isPos (u (ix3 b (anchor p a) 0))) this.symm) j

/-- The four totals weighted and added. -/
theorem weighted (c s o n : FVec Ideal S_ .f32) :
    addf (addf (mulf (constant S_ .f32 0x3F800000#32) (Host.divf c (constant S_ .f32 0x489C4000#32)))
      (mulf (constant S_ .f32 0x3E4CCCCD#32) (Host.divf o n)))
      (mulf (constant S_ .f32 0x40000000#32) (Host.divf s (mulf n (constant S_ .f32 0x40E00000#32)))) j
      = combine (c j) (s j) (o j) (n j) := rfl

/-- The reference's result is the loss of its arguments. -/
theorem whole_eq (h : Staged y t u) :
    whole x y t u j = loss (scoreOf x) (labelOf t) (outputOf y) (markOf u) := by
  unfold whole
  refine (weighted j _ _ _ _).trans ?_
  rw [cls_total, sl_total, ce_total y t u j h, pos_total, loss]

end Cert.ReferenceIdeal.RefTotals
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import proofs.«01_k».proof.Proof.KernelResult
public import proofs.«01_k».proof.Proof.RefTotals

@[expose] public section

noncomputable section

namespace Cert.Proof

open Idealize.ShloMosaic Idealize.ShloMosaic.TcCoe Idealize.SL.Sem
open Cert.DetLoss Cert.DetLoss.Inputs Cert.ReferenceIdeal.RefTotals

/-- Class labels that their staging keeps are the labels the kernel reads. -/
theorem labels_eq (y : FVec Ideal Cert.Pre_staged_targets.S4x18x200x200 .f32)
    (t : FVec Ideal Cert.Pre_staged_targets.S4x200x200x2 .f32) (u : FVec Ideal Cert.Pre_staged_targets.S4x80000x9 .f32)
    (h : Staged y t u) : Cert.KernelIdeal.Cells.labels t = labelOf t :=
  funext fun _ => funext fun _ => funext fun _ => h.cls _

/-- Regression labels that their staging keeps are the labels the kernel reads. -/
theorem marks_eq (y : FVec Ideal Cert.Pre_staged_targets.S4x18x200x200 .f32)
    (t : FVec Ideal Cert.Pre_staged_targets.S4x200x200x2 .f32) (u : FVec Ideal Cert.Pre_staged_targets.S4x80000x9 .f32)
    (h : Staged y t u) : Cert.KernelIdeal.Cells.marks u = markOf u :=
  funext fun _ => funext fun _ => funext fun _ => funext fun _ => h.reg _

/-- The kernel's loss and the reference's are one number where the precondition holds. -/
theorem same (x : FVec Ideal Cert.Pre_staged_targets.S4x2x200x200 .f32)
    (y : FVec Ideal Cert.Pre_staged_targets.S4x18x200x200 .f32)
    (t : FVec Ideal Cert.Pre_staged_targets.S4x200x200x2 .f32) (u : FVec Ideal Cert.Pre_staged_targets.S4x80000x9 .f32)
    (h : Staged y t u) :
    Cert.ReferenceIdeal.Parts.whole x y t u = fun _ => loss (Cert.KernelIdeal.Cells.scores x)
      (Cert.KernelIdeal.Cells.labels t) (Cert.KernelIdeal.Cells.outs y) (Cert.KernelIdeal.Cells.marks u) :=
  funext fun j => by
    rw [labels_eq y t u h, marks_eq y t u h]
    exact whole_eq x y t u j h

/-- What the reference returns is the loss of the arrays both programs were given. -/
theorem reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Staged (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_out0 (F := Ideal) m' c
      = fun _ => loss (Cert.KernelIdeal.Cells.X m c) (Cert.KernelIdeal.Cells.T m c) (Cert.KernelIdeal.Cells.Y m c)
          (Cert.KernelIdeal.Cells.U m c) := by
  rw [Cert.ReferenceIdeal.Parts.result, h0, h1, h2, h3]
  exact same _ _ _ _ hpre

/-- The reference runs, leaves its arguments unchanged, and has no semaphore, so every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
        = m ((c.tc : Thread Cert.ReferenceIdeal.nD Cert.ReferenceIdeal.τ).loc Cert.ReferenceIdeal.main_arg3))
      ∧ r.2.sem = fun _ => 0) :=
  (θ_run _ _ _).mono (fun _ h => ⟨fun c => (h c).2, sem_eq_zero_of_no_sems rfl _⟩) (Cert.ReferenceIdeal.Value.run m g)

/-- The certificate's claim. -/
theorem claim : Cert.Claim :=
  ⟨Cert.Kernel.Gen.facts, Cert.KernelIdeal.Gen.facts, Cert.ReferenceIdeal.Gen.facts, Cert.DetLoss.Inputs.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hpre hagree => ⟨fun c => fun _ => loss (Cert.KernelIdeal.Cells.X m c) (Cert.KernelIdeal.Cells.T m c)
        (Cert.KernelIdeal.Cells.Y m c) (Cert.KernelIdeal.Cells.U m c),
      Cert.KernelIdeal.KernelResult.run m g,
      (θ_run _ _ _).mono (fun _ h c => ⟨(h c).1.trans (reference m m' c (staged (hpre c)) (hagree c).1 (hagree c).2.1
        (hagree c).2.2.1 (hagree c).2.2.2), (h c).2⟩) (Cert.ReferenceIdeal.Value.run m' g')⟩⟩

end Cert.Proof

end
